-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x1024x8192 : Shape := ⟨3, ![9, 1024, 8192]⟩
abbrev S8192 : Shape := ⟨1, ![8192]⟩
abbrev S9216x8192 : Shape := ⟨2, ![9216, 8192]⟩
abbrev S1x8192 : Shape := ⟨2, ![1, 8192]⟩
abbrev S9216x256 : Shape := ⟨2, ![9216, 256]⟩
abbrev S8192x9216 : Shape := ⟨2, ![8192, 9216]⟩
abbrev S8192x288 : Shape := ⟨2, ![8192, 288]⟩
abbrev S36x1x256 : Shape := ⟨3, ![36, 1, 256]⟩
abbrev S256x8192 : Shape := ⟨2, ![256, 8192]⟩
abbrev S256x256 : Shape := ⟨2, ![256, 256]⟩
abbrev S8192x256 : Shape := ⟨2, ![8192, 256]⟩
abbrev S8192x128 : Shape := ⟨2, ![8192, 128]⟩
abbrev S1x1x256 : Shape := ⟨3, ![1, 1, 256]⟩
abbrev S32x256x256 : Shape := ⟨3, ![32, 256, 256]⟩
abbrev S128x8192 : Shape := ⟨2, ![128, 8192]⟩
abbrev S1x256 : Shape := ⟨2, ![1, 256]⟩
abbrev S1x256x256 : Shape := ⟨3, ![1, 256, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S8x32x256 : Shape := ⟨3, ![8, 32, 256]⟩
abbrev S8x256 : Shape := ⟨2, ![8, 256]⟩
abbrev S8x1x256 : Shape := ⟨3, ![8, 1, 256]⟩
abbrev S128x128 : Shape := ⟨2, ![128, 128]⟩
abbrev S9216 : Shape := ⟨1, ![9216]⟩

abbrev nBuf : Space → Nat
  | .hbm => 10
  | .vmem => 16
  | .smem => 0
  | _ => 0

abbrev bufTy : (tb : Table) → Fin (tcTables nBuf tb) → BufTy
  | .hbm, ⟨0, _⟩ => ⟨S9x1024x8192, .bf16⟩
  | .hbm, ⟨1, _⟩ => ⟨S8192, .bf16⟩
  | .hbm, ⟨2, _⟩ => ⟨S9216x8192, .bf16⟩
  | .hbm, ⟨3, _⟩ => ⟨S1x8192, .bf16⟩
  | .hbm, ⟨4, _⟩ => ⟨S9216x8192, .fp8e4m3⟩
  | .hbm, ⟨5, _⟩ => ⟨S9216x256, .f32⟩
  | .hbm, ⟨6, _⟩ => ⟨S8192x9216, .fp8e4m3⟩
  | .hbm, ⟨7, _⟩ => ⟨S8192x288, .f32⟩
  | .hbm, ⟨8, _⟩ => ⟨S36x1x256, .f32⟩
  | .hbm, ⟨9, _⟩ => ⟨S9216, .f32⟩
  | .local _ .vmem, ⟨0, _⟩ => ⟨S256x8192, .bf16⟩
  | .local _ .vmem, ⟨1, _⟩ => ⟨S256x8192, .bf16⟩
  | .local _ .vmem, ⟨2, _⟩ => ⟨S1x8192, .bf16⟩
  | .local _ .vmem, ⟨3, _⟩ => ⟨S256x8192, .fp8e4m3⟩
  | .local _ .vmem, ⟨4, _⟩ => ⟨S256x8192, .fp8e4m3⟩
  | .local _ .vmem, ⟨5, _⟩ => ⟨S256x256, .f32⟩
  | .local _ .vmem, ⟨6, _⟩ => ⟨S256x256, .f32⟩
  | .local _ .vmem, ⟨7, _⟩ => ⟨S8192x256, .fp8e4m3⟩
  | .local _ .vmem, ⟨8, _⟩ => ⟨S8192x256, .fp8e4m3⟩
  | .local _ .vmem, ⟨9, _⟩ => ⟨S8192x128, .f32⟩
  | .local _ .vmem, ⟨10, _⟩ => ⟨S8192x128, .f32⟩
  | .local _ .vmem, ⟨11, _⟩ => ⟨S1x1x256, .f32⟩
  | .local _ .vmem, ⟨12, _⟩ => ⟨S1x1x256, .f32⟩
  | .local _ .vmem, ⟨13, _⟩ => ⟨S32x256x256, .bf16⟩
  | .local _ .vmem, ⟨14, _⟩ => ⟨S256x256, .f32⟩
  | .local _ .vmem, ⟨15, _⟩ => ⟨S128x8192, .f32⟩
  | _, _ => ⟨S9x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c32_i32_22 : BitVec 32 := 32#32
  let v42 : BitVec 32 := Scalar.addi c0_i32_21 c32_i32_22
  let c1_i32_23 : BitVec 32 := 1#32
  ⟨c0_i32_21, v42, c1_i32_23⟩
def k0_mult1 (k0_t1 : Fin k0_t1_loop.trips) : BitVec 32 :=
  let c0_i32_21 : BitVec 32 := 0#32
  let c1_i32_23 : BitVec 32 := 1#32
  let arg11 : BitVec 32 := Scf.iv c0_i32_21 c1_i32_23 k0_t1
  let c256_i32 : BitVec 32 := 256#32
  let v43 : BitVec 32 := Scalar.muli arg11 c256_i32
  v43
def k0_off1 (k0_t1 : Fin k0_t1_loop.trips) : Fin 2 → Nat :=
  let c0_25 : Index := 0#32
  let c0_i32_21 : BitVec 32 := 0#32
  let c1_i32_23 : BitVec 32 := 1#32
  let arg11 : BitVec 32 := Scf.iv c0_i32_21 c1_i32_23 k0_t1
  let c256_i32 : BitVec 32 := 256#32
  let v43 : BitVec 32 := Scalar.muli arg11 c256_i32
  let v44 : BitVec 32 := v43
  let v45 : Index := Scalar.indexCast v44
  ![0, v45.toNat]
def k0_off2 (k0_t1 : Fin k0_t1_loop.trips) : Fin 3 → Nat :=
  let c0_i32_21 : BitVec 32 := 0#32
  let c1_i32_23 : BitVec 32 := 1#32
  let arg11 : BitVec 32 := Scf.iv c0_i32_21 c1_i32_23 k0_t1
  let v54 : Index := Scalar.indexCast arg11
  let c0_27 : Index := 0#32
  let c0_28 : Index := 0#32
  ![v54.toNat, 0, 0]
@[reducible] def k0_t2_loop : Scf.Loop 32 :=
  let c0_i32_1 : BitVec 32 := 0#32
  let c64_i32 : BitVec 32 := 64#32
  let v4 : BitVec 32 := Scalar.addi c0_i32_1 c64_i32
  let c1_i32 : BitVec 32 := 1#32
  ⟨c0_i32_1, v4, c1_i32⟩
def k0_mult2 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32 : BitVec 32 := 128#32
  let v39 : BitVec 32 := Scalar.muli arg11 c128_i32
  v39
def k0_off3 (k0_t2 : Fin k0_t2_loop.trips) : Fin 2 → Nat :=
  let c0_21 : Index := 0#32
  let c0_i32_1 : BitVec 32 := 0#32
  let c1_i32 : BitVec 32 := 1#32
  let arg11 : BitVec 32 := Scf.iv c0_i32_1 c1_i32 k0_t2
  let c128_i32 : BitVec 32 := 128#32
  let v39 : BitVec 32 := Scalar.muli arg11 c128_i32
  let v40 : BitVec 32 := v39
  let v41 : Index := Scalar.indexCast v40
  ![0, v41.toNat]
@[reducible] def k0_t3_loop : Scf.Loop 32 :=
  let c0_i32_8 : BitVec 32 := 0#32
  let c32_i32 : BitVec 32 := 32#32
  let v20 : BitVec 32 := Scalar.addi c0_i32_8 c32_i32
  let c1_i32_9 : BitVec 32 := 1#32
  ⟨c0_i32_8, v20, c1_i32_9⟩
def k0_mult3 (k0_t3 : Fin k0_t3_loop.trips) : BitVec 32 :=
  let c0_i32_8 : BitVec 32 := 0#32
  let c1_i32_9 : BitVec 32 := 1#32
  let arg11 : BitVec 32 := Scf.iv c0_i32_8 c1_i32_9 k0_t3
  let c256_i32 : BitVec 32 := 256#32
  let v39 : BitVec 32 := Scalar.muli arg11 c256_i32
  v39
def k0_off4 (k0_t3 : Fin k0_t3_loop.trips) : Fin 2 → Nat :=
  let c0_21 : Index := 0#32
  let c0_i32_8 : BitVec 32 := 0#32
  let c1_i32_9 : BitVec 32 := 1#32
  let arg11 : BitVec 32 := Scf.iv c0_i32_8 c1_i32_9 k0_t3
  let c256_i32 : BitVec 32 := 256#32
  let v39 : BitVec 32 := Scalar.muli arg11 c256_i32
  let v40 : BitVec 32 := v39
  let v41 : Index := Scalar.indexCast v40
  ![0, v41.toNat]
def k0_off5 (k0_t3 : Fin k0_t3_loop.trips) : Fin 3 → Nat :=
  let c0_i32_8 : BitVec 32 := 0#32
  let c1_i32_9 : BitVec 32 := 1#32
  let arg11 : BitVec 32 := Scf.iv c0_i32_8 c1_i32_9 k0_t3
  let v44 : Index := Scalar.indexCast arg11
  let c0_22 : Index := 0#32
  let c0_23 : Index := 0#32
  ![v44.toNat, 0, 0]
def k0_mult4 (k0_t3 : Fin k0_t3_loop.trips) : BitVec 32 :=
  let c0_i32_8 : BitVec 32 := 0#32
  let c1_i32_9 : BitVec 32 := 1#32
  let arg11 : BitVec 32 := Scf.iv c0_i32_8 c1_i32_9 k0_t3
  let c8_i32_34 : BitVec 32 := 8#32
  let v223 : BitVec 32 := Scalar.muli arg11 c8_i32_34
  v223
def k0_off6 (k0_t3 : Fin k0_t3_loop.trips) : Fin 2 → Nat :=
  let c0_i32_8 : BitVec 32 := 0#32
  let c1_i32_9 : BitVec 32 := 1#32
  let arg11 : BitVec 32 := Scf.iv c0_i32_8 c1_i32_9 k0_t3
  let c8_i32_34 : BitVec 32 := 8#32
  let v223 : BitVec 32 := Scalar.muli arg11 c8_i32_34
  let v224 : BitVec 32 := v223
  let v225 : Index := Scalar.indexCast v224
  let c0_35 : Index := 0#32
  ![v225.toNat, 0]
def k0_off7 (k0_t3 : Fin k0_t3_loop.trips) : Fin 2 → Nat :=
  let c0_39 : Index := 0#32
  let c0_i32_8 : BitVec 32 := 0#32
  let c1_i32_9 : BitVec 32 := 1#32
  let arg11 : BitVec 32 := Scf.iv c0_i32_8 c1_i32_9 k0_t3
  let c256_i32 : BitVec 32 := 256#32
  let v39 : BitVec 32 := Scalar.muli arg11 c256_i32
  let v40 : BitVec 32 := v39
  let v247 : Index := Scalar.indexCast v40
  ![0, v247.toNat]
def k0_mult5 (i : grid0.Coords) : BitVec 32 :=
  let arg0 : BitVec 32 := BitVec.ofNat 32 (i 0).val
  let c16_i32_79 : BitVec 32 := 16#32
  let c0_i32_80 : BitVec 32 := 0#32
  let v426 : BitVec 1 := Scalar.cmpi .eq c16_i32_79 c0_i32_80
  let c1_i32_81 : BitVec 32 := 1#32
  let v427 : BitVec 32 := Scalar.select v426 c1_i32_81 c16_i32_79
  let v428 : BitVec 32 := Scalar.remsi arg0 v427
  let c0_i32_83 : BitVec 32 := 0#32
  let v430 : BitVec 1 := Scalar.cmpi .slt v428 c0_i32_83
  let c0_i32_84 : BitVec 32 := 0#32
  let v431 : BitVec 1 := Scalar.cmpi .slt v427 c0_i32_84
  let v432 : BitVec 1 := Scalar.xori v430 v431
  let c0_i32_82 : BitVec 32 := 0#32
  let v429 : BitVec 1 := Scalar.cmpi .ne v428 c0_i32_82
  let v433 : BitVec 1 := Scalar.andi v432 v429
  let v434 : BitVec 32 := Scalar.addi v428 v427
  let v435 : BitVec 32 := Scalar.select v433 v434 v428
  let c8_i32_85 : BitVec 32 := 8#32
  let v436 : BitVec 32 := Scalar.muli v435 c8_i32_85
  v436
def k0_off8 (i : grid0.Coords) (k0_t3 : Fin k0_t3_loop.trips) : Fin 2 → Nat :=
  let arg0 : BitVec 32 := BitVec.ofNat 32 (i 0).val
  let c16_i32_79 : BitVec 32 := 16#32
  let c0_i32_80 : BitVec 32 := 0#32
  let v426 : BitVec 1 := Scalar.cmpi .eq c16_i32_79 c0_i32_80
  let c1_i32_81 : BitVec 32 := 1#32
  let v427 : BitVec 32 := Scalar.select v426 c1_i32_81 c16_i32_79
  let v428 : BitVec 32 := Scalar.remsi arg0 v427
  let c0_i32_83 : BitVec 32 := 0#32
  let v430 : BitVec 1 := Scalar.cmpi .slt v428 c0_i32_83
  let c0_i32_84 : BitVec 32 := 0#32
  let v431 : BitVec 1 := Scalar.cmpi .slt v427 c0_i32_84
  let v432 : BitVec 1 := Scalar.xori v430 v431
  let c0_i32_82 : BitVec 32 := 0#32
  let v429 : BitVec 1 := Scalar.cmpi .ne v428 c0_i32_82
  let v433 : BitVec 1 := Scalar.andi v432 v429
  let v434 : BitVec 32 := Scalar.addi v428 v427
  let v435 : BitVec 32 := Scalar.select v433 v434 v428
  let c8_i32_85 : BitVec 32 := 8#32
  let v436 : BitVec 32 := Scalar.muli v435 c8_i32_85
  let v437 : BitVec 32 := v436
  let v438 : Index := Scalar.indexCast v437
  let c0_i32_8 : BitVec 32 := 0#32
  let c1_i32_9 : BitVec 32 := 1#32
  let arg11 : BitVec 32 := Scf.iv c0_i32_8 c1_i32_9 k0_t3
  let c256_i32 : BitVec 32 := 256#32
  let v39 : BitVec 32 := Scalar.muli arg11 c256_i32
  let v40 : BitVec 32 := v39
  let v439 : Index := Scalar.indexCast v40
  ![v438.toNat, v439.toNat]
def k0_off9 (k0_t3 : Fin k0_t3_loop.trips) : Fin 2 → Nat :=
  let c0_i32_8 : BitVec 32 := 0#32
  let c1_i32_9 : BitVec 32 := 1#32
  let arg11 : BitVec 32 := Scf.iv c0_i32_8 c1_i32_9 k0_t3
  let c256_i32 : BitVec 32 := 256#32
  let v39 : BitVec 32 := Scalar.muli arg11 c256_i32
  let v40 : BitVec 32 := v39
  let v455 : Index := Scalar.indexCast v40
  let c0_88 : Index := 0#32
  ![v455.toNat, 0]
def k0_cond2 (i : grid0.Coords) : BitVec 1 :=
  let arg0 : BitVec 32 := BitVec.ofNat 32 (i 0).val
  let c16_i32 : BitVec 32 := 16#32
  let c0_i32_15 : BitVec 32 := 0#32
  let v24 : BitVec 1 := Scalar.cmpi .eq c16_i32 c0_i32_15
  let c1_i32_16 : BitVec 32 := 1#32
  let v25 : BitVec 32 := Scalar.select v24 c1_i32_16 c16_i32
  let v26 : BitVec 32 := Scalar.remsi arg0 v25
  let c0_i32_18 : BitVec 32 := 0#32
  let v28 : BitVec 1 := Scalar.cmpi .slt v26 c0_i32_18
  let c0_i32_19 : BitVec 32 := 0#32
  let v29 : BitVec 1 := Scalar.cmpi .slt v25 c0_i32_19
  let v30 : BitVec 1 := Scalar.xori v28 v29
  let c0_i32_17 : BitVec 32 := 0#32
  let v27 : BitVec 1 := Scalar.cmpi .ne v26 c0_i32_17
  let v31 : BitVec 1 := Scalar.andi v30 v27
  let v32 : BitVec 32 := Scalar.addi v26 v25
  let v33 : BitVec 32 := Scalar.select v31 v32 v26
  let c15_i32 : BitVec 32 := 15#32
  let v34 : BitVec 1 := Scalar.cmpi .eq v33 c15_i32
  let c35_i32 : BitVec 32 := 35#32
  let v35 : BitVec 1 := Scalar.cmpi .eq arg0 c35_i32
  let v36 : BitVec 1 := Scalar.ori v34 v35
  let v37 : BitVec 32 := Scalar.extui v36
  let c0_i32_20 : BitVec 32 := 0#32
  let v38 : BitVec 1 := Scalar.cmpi .ne v37 c0_i32_20
  v38

@[reducible] def k0_t4_loop : Scf.Loop 32 :=
  let c0_i32_21 : BitVec 32 := 0#32
  let c64_i32_22 : BitVec 32 := 64#32
  let v39 : BitVec 32 := Scalar.addi c0_i32_21 c64_i32_22
  let c1_i32_23 : BitVec 32 := 1#32
  ⟨c0_i32_21, v39, c1_i32_23⟩
def k0_mult6 (k0_t4 : Fin k0_t4_loop.trips) : BitVec 32 :=
  let c0_i32_21 : BitVec 32 := 0#32
  let c1_i32_23 : BitVec 32 := 1#32
  let arg11 : BitVec 32 := Scf.iv c0_i32_21 c1_i32_23 k0_t4
  let c128_i32 : BitVec 32 := 128#32
  let v40 : BitVec 32 := Scalar.muli arg11 c128_i32
  v40
def k0_off10 (k0_t4 : Fin k0_t4_loop.trips) : Fin 2 → Nat :=
  let c0_25 : Index := 0#32
  let c0_i32_21 : BitVec 32 := 0#32
  let c1_i32_23 : BitVec 32 := 1#32
  let arg11 : BitVec 32 := Scf.iv c0_i32_21 c1_i32_23 k0_t4
  let c128_i32 : BitVec 32 := 128#32
  let v40 : BitVec 32 := Scalar.muli arg11 c128_i32
  let v41 : BitVec 32 := v40
  let v42 : Index := Scalar.indexCast v41
  ![0, v42.toNat]
def k0_off11 (k0_t4 : Fin k0_t4_loop.trips) : Fin 2 → Nat :=
  let c0_i32_21 : BitVec 32 := 0#32
  let c1_i32_23 : BitVec 32 := 1#32
  let arg11 : BitVec 32 := Scf.iv c0_i32_21 c1_i32_23 k0_t4
  let c128_i32 : BitVec 32 := 128#32
  let v40 : BitVec 32 := Scalar.muli arg11 c128_i32
  let v41 : BitVec 32 := v40
  let v45 : Index := Scalar.indexCast v41
  let c0_26 : Index := 0#32
  ![v45.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S9x1024x8192 : Shape := ⟨3, ![9, 1024, 8192]⟩
abbrev S8192 : Shape := ⟨1, ![8192]⟩
abbrev S9216x8192 : Shape := ⟨2, ![9216, 8192]⟩
abbrev S_ : Shape := ⟨0, ![]⟩
abbrev S9216 : Shape := ⟨1, ![9216]⟩
abbrev S9216x1 : Shape := ⟨2, ![9216, 1]⟩
abbrev S1x8192 : Shape := ⟨2, ![1, 8192]⟩
abbrev S9216x256x32 : Shape := ⟨3, ![9216, 256, 32]⟩
abbrev S9216x256 : Shape := ⟨2, ![9216, 256]⟩
abbrev S246 : Shape := ⟨1, ![246]⟩
abbrev S9216x256x1 : Shape := ⟨3, ![9216, 256, 1]⟩
abbrev S1x1x246 : Shape := ⟨3, ![1, 1, 246]⟩
abbrev S9216x256x246 : Shape := ⟨3, ![9216, 256, 246]⟩
abbrev S8192x9216 : Shape := ⟨2, ![8192, 9216]⟩
abbrev S8192x288x32 : Shape := ⟨3, ![8192, 288, 32]⟩
abbrev S8192x288 : Shape := ⟨2, ![8192, 288]⟩
abbrev S8192x288x1 : Shape := ⟨3, ![8192, 288, 1]⟩
abbrev S8192x288x246 : Shape := ⟨3, ![8192, 288, 246]⟩

abbrev nBuf : Space → Nat
  | .hbm => 130
  | .vmem => 0
  | .smem => 0
  | _ => 0

abbrev hbmTy0_0 (i : Nat) : BufTy := match i % 128 with
  | 0 => ⟨S9x1024x8192, .bf16⟩
  | 1 => ⟨S8192, .bf16⟩
  | 2 => ⟨S9216x8192, .bf16⟩
  | 3 => ⟨S9216x8192, .f32⟩
  | 4 => ⟨S9216x8192, .f32⟩
  | 5 => ⟨S_, .f32⟩
  | 6 => ⟨S9216, .f32⟩
  | 7 => ⟨S_, .f32⟩
  | 8 => ⟨S9216, .f32⟩
  | 9 => ⟨S9216, .f32⟩
  | 10 => ⟨S_, .f32⟩
  | 11 => ⟨S9216, .f32⟩
  | 12 => ⟨S9216, .f32⟩
  | 13 => ⟨S9216, .f32⟩
  | 14 => ⟨S9216x1, .f32⟩
  | 15 => ⟨S9216x8192, .f32⟩
  | 16 => ⟨S9216x8192, .f32⟩
  | 17 => ⟨S8192, .f32⟩
  | 18 => ⟨S1x8192, .f32⟩
  | 19 => ⟨S9216x8192, .f32⟩
  | 20 => ⟨S9216x8192, .f32⟩
  | 21 => ⟨S9216x256x32, .f32⟩
  | 22 => ⟨S9216x256x32, .f32⟩
  | 23 => ⟨S_, .f32⟩
  | 24 => ⟨S9216x256, .f32⟩
  | 25 => ⟨S246, .i32⟩
  | 26 => ⟨S_, .i32⟩
  | 27 => ⟨S246, .i32⟩
  | 28 => ⟨S246, .i32⟩
  | 29 => ⟨S246, .f32⟩
  | 30 => ⟨S9216x256x1, .f32⟩
  | 31 => ⟨S_, .f32⟩
  | 32 => ⟨S246, .f32⟩
  | 33 => ⟨S246, .f32⟩
  | 34 => ⟨S_, .f32⟩
  | 35 => ⟨S246, .f32⟩
  | 36 => ⟨S246, .f32⟩
  | 37 => ⟨S1x1x246, .f32⟩
  | 38 => ⟨S9216x256x246, .f32⟩
  | 39 => ⟨S9216x256x246, .f32⟩
  | 40 => ⟨S9216x256x246, .i1⟩
  | 41 => ⟨S_, .f32⟩
  | 42 => ⟨S_, .f32⟩
  | 43 => ⟨S9216x256x246, .f32⟩
  | 44 => ⟨S9216x256x246, .f32⟩
  | 45 => ⟨S9216x256x246, .f32⟩
  | 46 => ⟨S_, .f32⟩
  | 47 => ⟨S9216x256, .f32⟩
  | 48 => ⟨S_, .f32⟩
  | 49 => ⟨S9216x256, .f32⟩
  | 50 => ⟨S9216x256, .i1⟩
  | 51 => ⟨S_, .f32⟩
  | 52 => ⟨S_, .f32⟩
  | 53 => ⟨S9216x256, .f32⟩
  | 54 => ⟨S9216x256, .f32⟩
  | 55 => ⟨S9216x256x1, .f32⟩
  | 56 => ⟨S9216x256x1, .f32⟩
  | 57 => ⟨S_, .f32⟩
  | 58 => ⟨S9216x256x1, .f32⟩
  | 59 => ⟨S9216x256x1, .f32⟩
  | 60 => ⟨S9216x256x32, .f32⟩
  | 61 => ⟨S9216x256x32, .f32⟩
  | 62 => ⟨S_, .f32⟩
  | 63 => ⟨S_, .f32⟩
  | 64 => ⟨S_, .f32⟩
  | 65 => ⟨S9216x256x32, .f32⟩
  | 66 => ⟨S9216x256x32, .f32⟩
  | 67 => ⟨S_, .f32⟩
  | 68 => ⟨S9216x256x32, .f32⟩
  | 69 => ⟨S9216x256x32, .f32⟩
  | 70 => ⟨S9216x8192, .f32⟩
  | 71 => ⟨S9216x8192, .fp8e4m3⟩
  | 72 => ⟨S_, .f32⟩
  | 73 => ⟨S9216x256, .f32⟩
  | 74 => ⟨S9216x256, .f32⟩
  | 75 => ⟨S8192x9216, .f32⟩
  | 76 => ⟨S8192x288x32, .f32⟩
  | 77 => ⟨S8192x288x32, .f32⟩
  | 78 => ⟨S_, .f32⟩
  | 79 => ⟨S8192x288, .f32⟩
  | 80 => ⟨S246, .i32⟩
  | 81 => ⟨S_, .i32⟩
  | 82 => ⟨S246, .i32⟩
  | 83 => ⟨S246, .i32⟩
  | 84 => ⟨S246, .f32⟩
  | 85 => ⟨S8192x288x1, .f32⟩
  | 86 => ⟨S_, .f32⟩
  | 87 => ⟨S246, .f32⟩
  | 88 => ⟨S246, .f32⟩
  | 89 => ⟨S_, .f32⟩
  | 90 => ⟨S246, .f32⟩
  | 91 => ⟨S246, .f32⟩
  | 92 => ⟨S1x1x246, .f32⟩
  | 93 => ⟨S8192x288x246, .f32⟩
  | 94 => ⟨S8192x288x246, .f32⟩
  | 95 => ⟨S8192x288x246, .i1⟩
  | 96 => ⟨S_, .f32⟩
  | 97 => ⟨S_, .f32⟩
  | 98 => ⟨S8192x288x246, .f32⟩
  | 99 => ⟨S8192x288x246, .f32⟩
  | 100 => ⟨S8192x288x246, .f32⟩
  | 101 => ⟨S_, .f32⟩
  | 102 => ⟨S8192x288, .f32⟩
  | 103 => ⟨S_, .f32⟩
  | 104 => ⟨S8192x288, .f32⟩
  | 105 => ⟨S8192x288, .i1⟩
  | 106 => ⟨S_, .f32⟩
  | 107 => ⟨S_, .f32⟩
  | 108 => ⟨S8192x288, .f32⟩
  | 109 => ⟨S8192x288, .f32⟩
  | 110 => ⟨S8192x288x1, .f32⟩
  | 111 => ⟨S8192x288x1, .f32⟩
  | 112 => ⟨S_, .f32⟩
  | 113 => ⟨S8192x288x1, .f32⟩
  | 114 => ⟨S8192x288x1, .f32⟩
  | 115 => ⟨S8192x288x32, .f32⟩
  | 116 => ⟨S8192x288x32, .f32⟩
  | 117 => ⟨S_, .f32⟩
  | 118 => ⟨S_, .f32⟩
  | 119 => ⟨S_, .f32⟩
  | 120 => ⟨S8192x288x32, .f32⟩
  | 121 => ⟨S8192x288x32, .f32⟩
  | 122 => ⟨S_, .f32⟩
  | 123 => ⟨S8192x288x32, .f32⟩
  | 124 => ⟨S8192x288x32, .f32⟩
  | 125 => ⟨S8192x9216, .f32⟩
  | 126 => ⟨S8192x9216, .fp8e4m3⟩
  | 127 => ⟨S_, .f32⟩
  | _ => ⟨S9x1024x8192, .bf16⟩

abbrev hbmTy0_1 (i : Nat) : BufTy := match i % 128 with
  | 0 => ⟨S8192x288, .f32⟩
  | 1 => ⟨S8192x288, .f32⟩
  | _ => ⟨S9x1024x8192, .bf16⟩

abbrev hbmTy (i : Nat) : BufTy := match i / 128 with
  | 0 => hbmTy0_0 i
  | 1 => hbmTy0_1 i
  | _ => ⟨S9x1024x8192, .bf16⟩

abbrev bufTy : (tb : Table) → Fin (tcTables nBuf tb) → BufTy
  | .hbm, ⟨i, _⟩ => hbmTy i
  | _, _ => ⟨S9x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_call1_v0 : Ref sig .tc := ⟨.hbm, 52, rfl⟩
abbrev main_call1_v1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_cst_19 : Ref sig .tc := ⟨.hbm, 103, rfl⟩
abbrev main_v67 : Ref sig .tc := ⟨.hbm, 104, rfl⟩
abbrev main_v68 : Ref sig .tc := ⟨.hbm, 105, rfl⟩
abbrev main_cst_20 : Ref sig .tc := ⟨.hbm, 106, rfl⟩
abbrev main_call4_v0 : Ref sig .tc := ⟨.hbm, 107, rfl⟩
abbrev main_call4_v1 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_21 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_22 : Ref sig .tc := ⟨.hbm, 117, rfl⟩
abbrev main_cst_23 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_24 : Ref sig .tc := ⟨.hbm, 127, rfl⟩
abbrev main_v79 : Ref sig .tc := ⟨.hbm, 128, rfl⟩
abbrev main_v80 : Ref sig .tc := ⟨.hbm, 129, rfl⟩

abbrev nD : Nat := 1
abbrev τ : Topo := Topo.v7x

variable {F : FTy → Type} [FloatOps F]
-- ==== Proof.Vals.lean ====
module
public import proofs.«01_k».proof.Proof.Gen.KernelIdeal.Loops
public import Idealize.ShloMosaic.Lib.Pipeline.FrameBody
@[expose] public section
set_option maxRecDepth 16384
noncomputable section
namespace Cert.KernelIdeal.Hand
open Cert.KernelIdeal Cert.KernelIdeal.Gen
open Idealize.ShloMosaic Idealize.ShloMosaic.TcCoe
variable {F : FTy → Type} [FloatOps F]

/-! # What one grid point computes, as functions of the blocks it reads

`x` is the point's 256 rows, `g` the gains, `D` the table of 32 diagonal matrices of the gains, `a` the
256×128 partial sums of squares. A chunk is 256 of the 8192 columns. -/

/-- Chunk `k` of the rows. -/
def ldx (x : Vec F S256x8192 .bf16) (k : Fin k0_t3_loop.trips) : Vec F S256x256 .bf16 :=
  View.ld x (Rect.unit (s := S256x8192) (k0_off4 k) S256x256.size (k0_off4_inb k))
/-- Chunk `k` of the gains. -/
def ldg (g : Vec F S1x8192 .bf16) (k : Fin k0_t3_loop.trips) : Vec F S1x256 .bf16 :=
  View.ld g (Rect.unit (s := S1x8192) (k0_off7 k) S1x256.size (k0_off7_inb k))
/-- Diagonal matrix `k`. -/
def ldd (D : Vec F S32x256x256 .bf16) (k : Fin k0_t3_loop.trips) : Vec F S1x256x256 .bf16 :=
  View.ld D (Rect.unit (s := S32x256x256) (k0_off5 k) S1x256x256.size (k0_off5_inb k))
/-- The partial sums of squares after `n` of the 64 lane chunks. -/
def accN (x : Vec F S256x8192 .bf16) : ℕ → FVec F S256x128 .f32
  | 0 => k0_pay25
  | n + 1 => if h : n < k0_t2_loop.trips then
      k0_pay26 (accN x n) (View.ld x (Rect.unit (s := S256x8192) (k0_off3 ⟨n, h⟩) S256x128.size (k0_off3_inb ⟨n, h⟩)))
    else accN x n
/-- The partial sums of squares. -/
def acc (x : Vec F S256x8192 .bf16) : FVec F S256x128 .f32 := accN x k0_t2_loop.trips

section Chunk
variable (xb : Vec F S256x256 .bf16) (db : Vec F S1x256x256 .bf16) (gb : Vec F S1x256 .bf16) (a : FVec F S256x128 .f32)
/-- Row groups: the largest magnitudes. -/
def rowMax : FVec F S8x256 .f32 := k0_pay4 (k0_pay28 a) xb db
/-- Row groups: the first 26 of the 31 rounds of the search for the word. -/
def rowSearch : IVec S8x256 32 :=
  k0_pay7 (rowMax xb db a) (k0_pay6 (rowMax xb db a) (k0_pay5 (k0_pay28 a) xb db) 16777216#32) 16384#32
/-- Row groups: the scales. -/
def rowScale : FVec F S8x256 .f32 := k0_pay9 (rowMax xb db a) (rowSearch xb db a) 16#32
/-- Row groups: the codes. -/
def rowCodes : FVec F S256x256 .fp8e4m3 :=
  k0_pay11 (k0_pay3 xb db) (k0_pay10 (k0_pay28 a) (rowMax xb db a) (rowSearch xb db a) 16#32)
/-- Column groups: the largest magnitudes. -/
def colMax : FVec F S8x256 .f32 := k0_pay14 (k0_pay27 a) (k0_pay2 xb) gb
/-- Column groups: the search after 14 rounds. -/
def colSearch1 : IVec S8x256 32 :=
  k0_pay17 (colMax xb gb a) (k0_pay15 (k0_pay27 a) (k0_pay2 xb) gb) (k0_pay16 (k0_pay27 a) (k0_pay2 xb) gb)
/-- Column groups: the next word tried. -/
def colTry1 : IVec S8x256 32 :=
  k0_pay18 (colMax xb gb a) (k0_pay15 (k0_pay27 a) (k0_pay2 xb) gb) (k0_pay16 (k0_pay27 a) (k0_pay2 xb) gb)
/-- Column groups: the search after 24 rounds. -/
def colSearch2 : IVec S8x256 32 := k0_pay19 (colMax xb gb a) (colSearch1 xb gb a) (colTry1 xb gb a)
/-- Column groups: the next word tried. -/
def colTry2 : IVec S8x256 32 := k0_pay20 (colMax xb gb a) (colSearch1 xb gb a) (colTry1 xb gb a)
/-- Column groups: the scales. -/
def colScale : FVec F S8x256 .f32 := k0_pay30 (k0_pay22 (colMax xb gb a) (colSearch2 xb gb a) (colTry2 xb gb a))
/-- Column groups: the codes. -/
def colCodes : FVec F S256x256 .fp8e4m3 :=
  k0_pay31 (k0_pay12 (k0_pay27 a) (k0_pay2 xb)) (k0_pay13 gb) (k0_pay23 (colMax xb gb a) (colSearch2 xb gb a) (colTry2 xb gb a))
end Chunk

theorem trips1 : k0_t1_loop.trips = 32 := by decide
theorem trips2 : k0_t2_loop.trips = 64 := by decide
theorem trips3 : k0_t3_loop.trips = 32 := by decide
theorem trips4 : k0_t4_loop.trips = 64 := by decide
/-- The chunk that holds a column. -/
def chunkOf (n : ℕ) (h : n < 8192) : Fin k0_t3_loop.trips := ⟨n / 256, by rw [trips3]; omega⟩

/-! ## The blocks a point leaves -/

variable (x : Vec F S256x8192 .bf16) (g : Vec F S1x8192 .bf16) (D : Vec F S32x256x256 .bf16)

theorem off1_inb (k : Fin k0_t1_loop.trips) : ∀ a, k0_off1 k a + S1x256.size a ≤ S1x8192.size a :=
  k0_off1_inb (grid0.coords ⟨0, by decide⟩) k (by decide)
/-- The table of diagonal matrices. -/
def dgArr : Vec F S32x256x256 .bf16 := fun y =>
  k0_pay24 (View.ld g (Rect.unit (s := S1x8192) (k0_off1 ⟨(y 0).val, by rw [trips1]; exact (y 0).isLt⟩) S1x256.size
    (off1_inb _))) (fun a => match a with | 0 => (0 : Fin 1) | 1 => y 1 | 2 => y 2)
/-- The row codes. -/
def rcArr : Vec F S256x8192 .fp8e4m3 := fun y =>
  rowCodes (ldx x (chunkOf (y 1).val (y 1).isLt)) (ldd D (chunkOf (y 1).val (y 1).isLt)) (acc x)
    (fun a => match a with | 0 => y 0 | 1 => (⟨(y 1).val % 256, Nat.mod_lt _ (by decide)⟩ : Fin 256))
/-- The row scales, group by group (each chunk's eight groups under each other). -/
def rscArr : Vec F S256x256 .f32 := fun y =>
  rowScale (ldx x ⟨(y 0).val / 8, by have := (y 0).isLt; rw [trips3]; change _ < 256 at this; omega⟩)
    (ldd D ⟨(y 0).val / 8, by have := (y 0).isLt; rw [trips3]; change _ < 256 at this; omega⟩) (acc x)
    (fun a => match a with | 0 => (⟨(y 0).val % 8, Nat.mod_lt _ (by decide)⟩ : Fin 8) | 1 => y 1)
/-- The column codes, column by column. -/
def ccArr : Vec F S8192x256 .fp8e4m3 := fun y =>
  colCodes (ldx x (chunkOf (y 0).val (y 0).isLt)) (ldg g (chunkOf (y 0).val (y 0).isLt)) (acc x)
    (fun a => match a with | 0 => (⟨(y 0).val % 256, Nat.mod_lt _ (by decide)⟩ : Fin 256) | 1 => y 1)
/-- The eight rows of column scales the point adds to the table. -/
def cscRow (r : Fin 8) (n : Fin 8192) : Elt F .f32 :=
  colScale (ldx x (chunkOf n.val n.isLt)) (ldg g (chunkOf n.val n.isLt)) (acc x)
    (fun a => match a with | 0 => r | 1 => (⟨n.val % 256, Nat.mod_lt _ (by decide)⟩ : Fin 256))
/-- The table of column scales after the point: eight rows new, the others as they were. -/
def cscArr (i : ℕ) (C : Vec F S128x8192 .f32) : Vec F S128x8192 .f32 := fun y =>
  if (y 0).val / 8 = i % 16 then cscRow x g ⟨(y 0).val % 8, Nat.mod_lt _ (by decide)⟩ (y 1) else C y
/-- The column scales written out, column by column. -/
def csArr (C : Vec F S128x8192 .f32) : Vec F S8192x128 .f32 := fun y =>
  C (fun a => match a with | 0 => y 1 | 1 => y 0)

end Cert.KernelIdeal.Hand
end
-- ==== Proof.Trips.lean ====
module
public import proofs.«01_k».proof.Proof.Vals
public import Idealize.ShloMosaic.Lib.WritesUnit
public import Idealize.ShloMosaic.Lib.Pipeline.Value
@[expose] public section
set_option maxRecDepth 16384
noncomputable section
namespace Cert.KernelIdeal.Hand
open Cert.KernelIdeal Cert.KernelIdeal.Gen
open Idealize.ShloMosaic Idealize.ShloMosaic.TcCoe
variable {F : FTy → Type} [FloatOps F]
/-! # What the kernel's four loops write: the pieces of all trips together are one array -/

theorem off1_eq : ∀ k : Fin k0_t1_loop.trips, k0_off1 k = ![0, 256 * k.val] := by decide +kernel
theorem off2_eq : ∀ k : Fin k0_t1_loop.trips, k0_off2 k = ![k.val, 0, 0] := by decide +kernel
theorem off3_eq : ∀ k : Fin k0_t2_loop.trips, k0_off3 k = ![0, 128 * k.val] := by decide +kernel
theorem off4_eq : ∀ k : Fin k0_t3_loop.trips, k0_off4 k = ![0, 256 * k.val] := by decide +kernel
theorem off5_eq : ∀ k : Fin k0_t3_loop.trips, k0_off5 k = ![k.val, 0, 0] := by decide +kernel
theorem off6_eq : ∀ k : Fin k0_t3_loop.trips, k0_off6 k = ![8 * k.val, 0] := by decide +kernel
theorem off7_eq : ∀ k : Fin k0_t3_loop.trips, k0_off7 k = ![0, 256 * k.val] := by decide +kernel
theorem off8_eq : ∀ (t : Fin grid0.N) (k : Fin k0_t3_loop.trips), k0_off8 (grid0.coords t) k = ![8 * (t.val % 16), 256 * k.val] := by decide +kernel
theorem off9_eq : ∀ k : Fin k0_t3_loop.trips, k0_off9 k = ![256 * k.val, 0] := by decide +kernel
theorem off10_eq : ∀ k : Fin k0_t4_loop.trips, k0_off10 k = ![0, 128 * k.val] := by decide +kernel
theorem off11_eq : ∀ k : Fin k0_t4_loop.trips, k0_off11 k = ![128 * k.val, 0] := by decide +kernel

section
variable (𝒱 : Variants) (c : Dev nD) (bd : Option 𝒱.V) (i : grid0.Coords) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)

theorem trip1 (h1 : k0_cond1 i = 1#1) (X2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 h1 X2 k).1
      = [⟨Rect.unit (s := S32x256x256) (k0_off2 k) S1x256x256.size (k0_off2_inb i k h1),
          k0_pay24 (View.ld (arg2.view.read (Elt F) X2) (Rect.unit (s := S1x8192) (k0_off1 k) S1x256.size (off1_inb k)))⟩] := by
  unfold trip_k0_t1; rfl

theorem trip4 (h2 : k0_cond2 i = 1#1) (X10 : BufTy.Contents (Elt F) arg10.view.ty) (k : Fin k0_t4_loop.trips) :
    (trip_k0_t4 (F := F) 𝒱 c bd i arg1 harg1 arg2 harg2 arg3 harg3 arg4 harg4 arg5 harg5 arg6 harg6 arg7 harg7 arg8 harg8 arg9 harg9 arg10 harg10 h2 X10 k).1
      = [⟨Rect.unit (s := S8192x128) (k0_off11 k) S128x128.size (k0_off11_inb i k h2),
          k0_pay1 (View.ld (arg10.view.read (Elt F) X10) (Rect.unit (s := S128x8192) (k0_off10 k) S128x128.size (k0_off10_inb i k h2)))⟩] := by
  unfold trip_k0_t4; rfl

variable (a : FVec F S256x128 .f32) (X1 : BufTy.Contents (Elt F) arg1.view.ty) (X2 : BufTy.Contents (Elt F) arg2.view.ty) (X8 : BufTy.Contents (Elt F) arg8.view.ty) (k : Fin k0_t3_loop.trips)
theorem trip3_rc : (trip_k0_t3 (F := F) 𝒱 c bd i arg1 harg1 arg2 harg2 arg3 harg3 arg4 harg4 arg5 harg5 arg6 harg6 arg7 harg7 arg8 harg8 arg9 harg9 arg10 harg10 a X1 X2 X8 k).1
    = [⟨Rect.unit (s := S256x8192) (k0_off4 k) S256x256.size (k0_off4_inb k), rowCodes (ldx (arg1.view.read (Elt F) X1) k) (ldd (arg8.view.read (Elt F) X8) k) a⟩] := by
  unfold trip_k0_t3; rfl
theorem trip3_cc : (trip_k0_t3 (F := F) 𝒱 c bd i arg1 harg1 arg2 harg2 arg3 harg3 arg4 harg4 arg5 harg5 arg6 harg6 arg7 harg7 arg8 harg8 arg9 harg9 arg10 harg10 a X1 X2 X8 k).2.1
    = [⟨Rect.unit (s := S8192x256) (k0_off9 k) S256x256.size (k0_off9_inb k), colCodes (ldx (arg1.view.read (Elt F) X1) k) (ldg (arg2.view.read (Elt F) X2) k) a⟩] := by
  unfold trip_k0_t3; rfl
theorem trip3_rsc : (trip_k0_t3 (F := F) 𝒱 c bd i arg1 harg1 arg2 harg2 arg3 harg3 arg4 harg4 arg5 harg5 arg6 harg6 arg7 harg7 arg8 harg8 arg9 harg9 arg10 harg10 a X1 X2 X8 k).2.2.1
    = [⟨Rect.unit (s := S256x256) (k0_off6 k) S8x256.size (k0_off6_inb k), rowScale (ldx (arg1.view.read (Elt F) X1) k) (ldd (arg8.view.read (Elt F) X8) k) a⟩] := by
  unfold trip_k0_t3; rfl
theorem trip3_csc : (trip_k0_t3 (F := F) 𝒱 c bd i arg1 harg1 arg2 harg2 arg3 harg3 arg4 harg4 arg5 harg5 arg6 harg6 arg7 harg7 arg8 harg8 arg9 harg9 arg10 harg10 a X1 X2 X8 k).2.2.2.1
    = [⟨Rect.unit (s := S128x8192) (k0_off8 i k) S8x256.size (k0_off8_inb i k), colScale (ldx (arg1.view.read (Elt F) X1) k) (ldg (arg2.view.read (Elt F) X2) k) a⟩] := by
  unfold trip_k0_t3; rfl
end

/-- Entries by chunk, for a chunk number given by an equation. -/
theorem dgArr_at (g : Vec F S1x8192 .bf16) (y : S32x256x256.Idx) (k : Fin k0_t1_loop.trips) (hk : (y 0).val = k.val) :
    dgArr g y = k0_pay24 (View.ld g (Rect.unit (s := S1x8192) (k0_off1 k) S1x256.size (off1_inb k)))
      (fun a => match a with | 0 => (0 : Fin 1) | 1 => y 1 | 2 => y 2) := by
  obtain ⟨k, hk'⟩ := k
  obtain rfl : (y 0).val = k := hk
  rfl
theorem rcArr_at (x : Vec F S256x8192 .bf16) (D : Vec F S32x256x256 .bf16) (y : S256x8192.Idx) (k : Fin k0_t3_loop.trips) (hk : (y 1).val / 256 = k.val) :
    rcArr x D y = rowCodes (ldx x k) (ldd D k) (acc x) (fun a => match a with | 0 => y 0 | 1 => (⟨(y 1).val % 256, Nat.mod_lt _ (by decide)⟩ : Fin 256)) := by
  obtain rfl : chunkOf (y 1).val (y 1).isLt = k := Fin.ext hk
  rfl
theorem ccArr_at (x : Vec F S256x8192 .bf16) (g : Vec F S1x8192 .bf16) (y : S8192x256.Idx) (k : Fin k0_t3_loop.trips) (hk : (y 0).val / 256 = k.val) :
    ccArr x g y = colCodes (ldx x k) (ldg g k) (acc x) (fun a => match a with | 0 => (⟨(y 0).val % 256, Nat.mod_lt _ (by decide)⟩ : Fin 256) | 1 => y 1) := by
  obtain rfl : chunkOf (y 0).val (y 0).isLt = k := Fin.ext hk
  rfl
theorem cscRow_at (x : Vec F S256x8192 .bf16) (g : Vec F S1x8192 .bf16) (r : Fin 8) (n : Fin 8192) (k : Fin k0_t3_loop.trips) (hk : n.val / 256 = k.val) :
    cscRow x g r n = colScale (ldx x k) (ldg g k) (acc x) (fun a => match a with | 0 => r | 1 => (⟨n.val % 256, Nat.mod_lt _ (by decide)⟩ : Fin 256)) := by
  obtain rfl : chunkOf n.val n.isLt = k := Fin.ext hk
  rfl
theorem rscArr_at (x : Vec F S256x8192 .bf16) (D : Vec F S32x256x256 .bf16) (y : S256x256.Idx) (k : Fin k0_t3_loop.trips) (hk : (y 0).val / 8 = k.val) :
    rscArr x D y = rowScale (ldx x k) (ldd D k) (acc x) (fun a => match a with | 0 => (⟨(y 0).val % 8, Nat.mod_lt _ (by decide)⟩ : Fin 8) | 1 => y 1) := by
  obtain ⟨k, hk'⟩ := k
  obtain rfl : (y 0).val / 8 = k := hk
  rfl

section
variable {sig' : RefSig} {κ : Kind} {sp : Space} {sh : Shape} {e : EltTy}
/-- The pieces of `N` trips, one each: at a place that trip `k` writes, where all trips agree with one array `G`, the memory reads `G`. -/
theorem read_trips (v : View sig' κ sp sh e) (f : v.ty.Contents (Elt F)) (N : ℕ) (P : ℕ → List (View.Piece (Elt F) sh e)) (r : Fin N → Rect sh)
    (w : (k : Fin N) → (r k).shape.Idx → Elt F e) (h0 : P 0 = []) (hs : ∀ k : Fin N, P (k.val + 1) = ⟨r k, w k⟩ :: P k.val)
    (G : sh.Idx → Elt F e) (hG : ∀ k x, w k x = G ((r k).emb x)) (y : sh.Idx) (k : Fin N) (hy : y ∈ (r k).set) :
    v.read (Elt F) (v.writes (Elt F) f (P N)) y = G y := by
  have hmem : ∀ n, n ≤ N → ∀ p ∈ P n, ∃ k : Fin N, p = ⟨r k, w k⟩ := by
    intro n
    induction n with
    | zero => intro _ p hp; rw [h0] at hp; exact absurd hp List.not_mem_nil
    | succ n ih =>
      intro hn p hp
      rw [hs ⟨n, hn⟩] at hp
      rcases List.mem_cons.mp hp with rfl | hp
      · exact ⟨_, rfl⟩
      · exact ih (by omega) p hp
  have hin : ∀ n, n ≤ N → ∀ k : Fin N, k.val < n → (⟨r k, w k⟩ : View.Piece (Elt F) sh e) ∈ P n := by
    intro n
    induction n with
    | zero => intro _ k hk; omega
    | succ n ih =>
      intro hn k hk
      rw [hs ⟨n, hn⟩]
      by_cases h : k.val = n
      · obtain rfl : k = ⟨n, hn⟩ := Fin.ext h
        exact List.mem_cons_self
      · exact List.mem_cons_of_mem _ (ih (by omega) k (by omega))
  refine View.read_writes_apply_of_pieces v f G (P N) ?_ y ⟨_, hin N le_rfl k k.isLt, hy⟩
  intro p hp x
  obtain ⟨k, rfl⟩ := hmem N le_rfl p hp
  exact hG k x
/-- At a place no trip writes the memory reads what it held. -/
theorem read_trips_of_not_mem (v : View sig' κ sp sh e) (f : v.ty.Contents (Elt F)) (N : ℕ) (P : ℕ → List (View.Piece (Elt F) sh e)) (r : Fin N → Rect sh)
    (w : (k : Fin N) → (r k).shape.Idx → Elt F e) (h0 : P 0 = []) (hs : ∀ k : Fin N, P (k.val + 1) = ⟨r k, w k⟩ :: P k.val)
    (y : sh.Idx) (hy : ∀ k, y ∉ (r k).set) :
    v.read (Elt F) (v.writes (Elt F) f (P N)) y = v.read (Elt F) f y := by
  have key : ∀ n, n ≤ N → v.read (Elt F) (v.writes (Elt F) f (P n)) y = v.read (Elt F) f y := by
    intro n
    induction n with
    | zero => intro _; rw [h0]; rfl
    | succ n ih =>
      intro hn
      rw [hs ⟨n, hn⟩, View.read_writes_cons_miss v f _ _ y (hy _)]
      exact ih (by omega)
  exact key N le_rfl
end

section
variable (𝒱 : Variants) (c : Dev nD) (bd : Option 𝒱.V) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)

/-- After the first loop the scratch holds the table of diagonal matrices. -/
theorem read_dg (i : grid0.Coords) (h1 : k0_cond1 i = 1#1) (X2 : BufTy.Contents (Elt F) arg2.view.ty) (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 h1 X2 k0_t1_loop.trips)) = dgArr (arg2.view.read (Elt F) X2) := by
  funext y
  have hy0 : (y 0).val < 32 := (y 0).isLt
  refine read_trips arg8.view f k0_t1_loop.trips (pb_k0_t1 (F := F) 𝒱 c bd i arg1 harg1 arg2 harg2 arg3 harg3 arg4 harg4 arg5 harg5 arg6 harg6 arg7 harg7 arg8 harg8 arg9 harg9 arg10 harg10 h1 X2) _ _ rfl
    (fun k => (pb_k0_t1_succ (F := F) 𝒱 c bd i arg1 harg1 arg2 harg2 arg3 harg3 arg4 harg4 arg5 harg5 arg6 harg6 arg7 harg7 arg8 harg8 arg9 harg9 arg10 harg10 h1 X2 k).trans (by unfold tripL_k0_t1; rw [trip1, List.singleton_append])) _ ?_ y ⟨(y 0).val, by rw [trips1]; exact hy0⟩ ?_
  · intro k z
    have e0 : (((Rect.unit (s := S32x256x256) (k0_off2 k) S1x256x256.size (k0_off2_inb i k h1)).emb z) 0).val = k.val := by
      have hz : (z 0).val < 1 := (z 0).isLt
      show k0_off2 k 0 + 1 * (z 0).val = k.val
      rw [show k0_off2 k 0 = _ from congrFun (off2_eq k) 0]; show k.val + 1 * (z 0).val = _; omega
    refine Eq.trans ?_ (dgArr_at _ _ k e0).symm
    congr 1
    funext a
    match a with
    | 0 => exact Fin.ext (by have hz : (z 0).val < 1 := (z 0).isLt; show (z 0).val = 0; omega)
    | 1 => exact Fin.ext (by show (z 1).val = k0_off2 k 1 + 1 * (z 1).val; rw [show k0_off2 k 1 = _ from congrFun (off2_eq k) 1]; show _ = 0 + 1 * (z 1).val; omega)
    | 2 => exact Fin.ext (by show (z 2).val = k0_off2 k 2 + 1 * (z 2).val; rw [show k0_off2 k 2 = _ from congrFun (off2_eq k) 2]; show _ = 0 + 1 * (z 2).val; omega)
  · rw [Rect.mem_set_unit]
    intro b
    rw [off2_eq]
    match b with
    | 0 => exact ⟨le_rfl, Nat.lt_succ_self _⟩
    | 1 => exact ⟨Nat.zero_le _, by show (y 1).val < 0 + 256; have h : (y 1).val < 256 := (y 1).isLt; omega⟩
    | 2 => exact ⟨Nat.zero_le _, by show (y 2).val < 0 + 256; have h : (y 2).val < 256 := (y 2).isLt; omega⟩

/-- After the last loop the block holds the table of column scales written out. -/
theorem read_cs (i : grid0.Coords) (h2 : k0_cond2 i = 1#1) (X10 : BufTy.Contents (Elt F) arg10.view.ty) (f : BufTy.Contents (Elt F) arg6.view.ty) :
    arg6.view.read (Elt F) (arg6.view.writes (Elt F) f (pb_k0_t4 (F := F) 𝒱 c bd i arg1 harg1 arg2 harg2 arg3 harg3 arg4 harg4 arg5 harg5 arg6 harg6 arg7 harg7 arg8 harg8 arg9 harg9 arg10 harg10 h2 X10 k0_t4_loop.trips)) = csArr (arg10.view.read (Elt F) X10) := by
  funext y
  have hy0 : (y 0).val < 8192 := (y 0).isLt
  have hy1 : (y 1).val < 128 := (y 1).isLt
  refine read_trips arg6.view f k0_t4_loop.trips (pb_k0_t4 (F := F) 𝒱 c bd i arg1 harg1 arg2 harg2 arg3 harg3 arg4 harg4 arg5 harg5 arg6 harg6 arg7 harg7 arg8 harg8 arg9 harg9 arg10 harg10 h2 X10) _ _ rfl
    (fun k => (pb_k0_t4_succ (F := F) 𝒱 c bd i arg1 harg1 arg2 harg2 arg3 harg3 arg4 harg4 arg5 harg5 arg6 harg6 arg7 harg7 arg8 harg8 arg9 harg9 arg10 harg10 h2 X10 k).trans (by unfold tripL_k0_t4; rw [trip4, List.singleton_append])) _ ?_ y ⟨(y 0).val / 128, by rw [trips4]; omega⟩ ?_
  · intro k z
    have hz0 : (z 0).val < 128 := (z 0).isLt
    have hz1 : (z 1).val < 128 := (z 1).isLt
    unfold k0_pay1 csArr
    dsimp only
    refine (transpose_apply [1, 0] _ _ z (show S128x128.Idx from fun a => match a with | 0 => z 1 | 1 => z 0) (fun b => match b with | 0 => rfl | 1 => rfl)).trans ?_
    unfold View.ld
    congr 1
    funext a
    match a with
    | 0 => exact Fin.ext (by show k0_off10 k 0 + 1 * (z 1).val = k0_off11 k 1 + 1 * (z 1).val; rw [show k0_off10 k 0 = _ from congrFun (off10_eq k) 0, show k0_off11 k 1 = _ from congrFun (off11_eq k) 1]; rfl)
    | 1 => exact Fin.ext (by show k0_off10 k 1 + 1 * (z 0).val = k0_off11 k 0 + 1 * (z 0).val; rw [show k0_off10 k 1 = _ from congrFun (off10_eq k) 1, show k0_off11 k 0 = _ from congrFun (off11_eq k) 0]; rfl)
  · rw [Rect.mem_set_unit]
    intro b
    rw [off11_eq]
    match b with
    | 0 => exact ⟨by show 128 * ((y 0).val / 128) ≤ (y 0).val; omega, by show (y 0).val < 128 * ((y 0).val / 128) + 128; omega⟩
    | 1 => exact ⟨Nat.zero_le _, by show (y 1).val < 0 + 128; omega⟩

variable (i : grid0.Coords) (a : FVec F S256x128 .f32) (X1 : BufTy.Contents (Elt F) arg1.view.ty) (X2 : BufTy.Contents (Elt F) arg2.view.ty) (X8 : BufTy.Contents (Elt F) arg8.view.ty)

/-- After the chunk loop: the row codes. -/
theorem read_rc (f : BufTy.Contents (Elt F) arg3.view.ty) (ha : a = acc (arg1.view.read (Elt F) X1)) :
    arg3.view.read (Elt F) (arg3.view.writes (Elt F) f (pb_k0_t3 (F := F) 𝒱 c bd i arg1 harg1 arg2 harg2 arg3 harg3 arg4 harg4 arg5 harg5 arg6 harg6 arg7 harg7 arg8 harg8 arg9 harg9 arg10 harg10 a X1 X2 X8 k0_t3_loop.trips).1) = rcArr (arg1.view.read (Elt F) X1) (arg8.view.read (Elt F) X8) := by
  subst ha
  funext y
  have hy0 : (y 0).val < 256 := (y 0).isLt
  have hy1 : (y 1).val < 8192 := (y 1).isLt
  refine read_trips arg3.view f k0_t3_loop.trips (fun n => (pb_k0_t3 (F := F) 𝒱 c bd i arg1 harg1 arg2 harg2 arg3 harg3 arg4 harg4 arg5 harg5 arg6 harg6 arg7 harg7 arg8 harg8 arg9 harg9 arg10 harg10 (acc (arg1.view.read (Elt F) X1)) X1 X2 X8 n).1) _ _ rfl
    (fun k => (congrArg (·.1) (pb_k0_t3_succ (F := F) 𝒱 c bd i arg1 harg1 arg2 harg2 arg3 harg3 arg4 harg4 arg5 harg5 arg6 harg6 arg7 harg7 arg8 harg8 arg9 harg9 arg10 harg10 _ X1 X2 X8 k)).trans (by dsimp only; rw [trip3_rc]; rfl)) _ ?_ y (chunkOf (y 1).val hy1) ?_
  · intro k z
    have hz1 : (z 1).val < 256 := (z 1).isLt
    have e1 : (((Rect.unit (s := S256x8192) (k0_off4 k) S256x256.size (k0_off4_inb k)).emb z) 1).val = 256 * k.val + (z 1).val := by
      show k0_off4 k 1 + 1 * (z 1).val = _
      rw [show k0_off4 k 1 = _ from congrFun (off4_eq k) 1]; show 256 * k.val + 1 * (z 1).val = _; omega
    refine Eq.trans ?_ (rcArr_at _ _ _ k (by show _ / 256 = _; rw [e1]; omega)).symm
    congr 1
    funext b
    match b with
    | 0 => exact Fin.ext (by show (z 0).val = k0_off4 k 0 + 1 * (z 0).val; rw [show k0_off4 k 0 = _ from congrFun (off4_eq k) 0]; show _ = 0 + 1 * (z 0).val; omega)
    | 1 => exact Fin.ext (by show (z 1).val = _ % 256; rw [e1]; omega)
  · rw [Rect.mem_set_unit]
    intro b
    rw [off4_eq]
    match b with
    | 0 => exact ⟨Nat.zero_le _, by show (y 0).val < 0 + 256; omega⟩
    | 1 => exact ⟨by show 256 * ((y 1).val / 256) ≤ (y 1).val; omega, by show (y 1).val < 256 * ((y 1).val / 256) + 256; omega⟩

/-- After the chunk loop: the column codes. -/
theorem read_cc (f : BufTy.Contents (Elt F) arg5.view.ty) (ha : a = acc (arg1.view.read (Elt F) X1)) :
    arg5.view.read (Elt F) (arg5.view.writes (Elt F) f (pb_k0_t3 (F := F) 𝒱 c bd i arg1 harg1 arg2 harg2 arg3 harg3 arg4 harg4 arg5 harg5 arg6 harg6 arg7 harg7 arg8 harg8 arg9 harg9 arg10 harg10 a X1 X2 X8 k0_t3_loop.trips).2.1) = ccArr (arg1.view.read (Elt F) X1) (arg2.view.read (Elt F) X2) := by
  subst ha
  funext y
  have hy0 : (y 0).val < 8192 := (y 0).isLt
  have hy1 : (y 1).val < 256 := (y 1).isLt
  refine read_trips arg5.view f k0_t3_loop.trips (fun n => (pb_k0_t3 (F := F) 𝒱 c bd i arg1 harg1 arg2 harg2 arg3 harg3 arg4 harg4 arg5 harg5 arg6 harg6 arg7 harg7 arg8 harg8 arg9 harg9 arg10 harg10 (acc (arg1.view.read (Elt F) X1)) X1 X2 X8 n).2.1) _ _ rfl
    (fun k => (congrArg (·.2.1) (pb_k0_t3_succ (F := F) 𝒱 c bd i arg1 harg1 arg2 harg2 arg3 harg3 arg4 harg4 arg5 harg5 arg6 harg6 arg7 harg7 arg8 harg8 arg9 harg9 arg10 harg10 _ X1 X2 X8 k)).trans (by dsimp only; rw [trip3_cc]; rfl)) _ ?_ y (chunkOf (y 0).val hy0) ?_
  · intro k z
    have hz0 : (z 0).val < 256 := (z 0).isLt
    have e0 : (((Rect.unit (s := S8192x256) (k0_off9 k) S256x256.size (k0_off9_inb k)).emb z) 0).val = 256 * k.val + (z 0).val := by
      show k0_off9 k 0 + 1 * (z 0).val = _
      rw [show k0_off9 k 0 = _ from congrFun (off9_eq k) 0]; show 256 * k.val + 1 * (z 0).val = _; omega
    refine Eq.trans ?_ (ccArr_at _ _ _ k (by show _ / 256 = _; rw [e0]; omega)).symm
    congr 1
    funext b
    match b with
    | 0 => exact Fin.ext (by show (z 0).val = _ % 256; rw [e0]; omega)
    | 1 => exact Fin.ext (by show (z 1).val = k0_off9 k 1 + 1 * (z 1).val; rw [show k0_off9 k 1 = _ from congrFun (off9_eq k) 1]; show _ = 0 + 1 * (z 1).val; omega)
  · rw [Rect.mem_set_unit]
    intro b
    rw [off9_eq]
    match b with
    | 0 => exact ⟨by show 256 * ((y 0).val / 256) ≤ (y 0).val; omega, by show (y 0).val < 256 * ((y 0).val / 256) + 256; omega⟩
    | 1 => exact ⟨Nat.zero_le _, by show (y 1).val < 0 + 256; omega⟩

/-- After the chunk loop: the row scales, group by group. -/
theorem read_rsc (f : BufTy.Contents (Elt F) arg9.view.ty) (ha : a = acc (arg1.view.read (Elt F) X1)) :
    arg9.view.read (Elt F) (arg9.view.writes (Elt F) f (pb_k0_t3 (F := F) 𝒱 c bd i arg1 harg1 arg2 harg2 arg3 harg3 arg4 harg4 arg5 harg5 arg6 harg6 arg7 harg7 arg8 harg8 arg9 harg9 arg10 harg10 a X1 X2 X8 k0_t3_loop.trips).2.2.1) = rscArr (arg1.view.read (Elt F) X1) (arg8.view.read (Elt F) X8) := by
  subst ha
  funext y
  have hy0 : (y 0).val < 256 := (y 0).isLt
  have hy1 : (y 1).val < 256 := (y 1).isLt
  refine read_trips arg9.view f k0_t3_loop.trips (fun n => (pb_k0_t3 (F := F) 𝒱 c bd i arg1 harg1 arg2 harg2 arg3 harg3 arg4 harg4 arg5 harg5 arg6 harg6 arg7 harg7 arg8 harg8 arg9 harg9 arg10 harg10 (acc (arg1.view.read (Elt F) X1)) X1 X2 X8 n).2.2.1) _ _ rfl
    (fun k => (congrArg (·.2.2.1) (pb_k0_t3_succ (F := F) 𝒱 c bd i arg1 harg1 arg2 harg2 arg3 harg3 arg4 harg4 arg5 harg5 arg6 harg6 arg7 harg7 arg8 harg8 arg9 harg9 arg10 harg10 _ X1 X2 X8 k)).trans (by dsimp only; rw [trip3_rsc]; rfl)) _ ?_ y ⟨(y 0).val / 8, by rw [trips3]; omega⟩ ?_
  · intro k z
    have hz0 : (z 0).val < 8 := (z 0).isLt
    have e0 : (((Rect.unit (s := S256x256) (k0_off6 k) S8x256.size (k0_off6_inb k)).emb z) 0).val = 8 * k.val + (z 0).val := by
      show k0_off6 k 0 + 1 * (z 0).val = _
      rw [show k0_off6 k 0 = _ from congrFun (off6_eq k) 0]; show 8 * k.val + 1 * (z 0).val = _; omega
    refine Eq.trans ?_ (rscArr_at _ _ _ k (by show _ / 8 = _; rw [e0]; omega)).symm
    congr 1
    funext b
    match b with
    | 0 => exact Fin.ext (by show (z 0).val = _ % 8; rw [e0]; omega)
    | 1 => exact Fin.ext (by show (z 1).val = k0_off6 k 1 + 1 * (z 1).val; rw [show k0_off6 k 1 = _ from congrFun (off6_eq k) 1]; show _ = 0 + 1 * (z 1).val; omega)
  · rw [Rect.mem_set_unit]
    intro b
    rw [off6_eq]
    match b with
    | 0 => exact ⟨by show 8 * ((y 0).val / 8) ≤ (y 0).val; omega, by show (y 0).val < 8 * ((y 0).val / 8) + 8; omega⟩
    | 1 => exact ⟨Nat.zero_le _, by show (y 1).val < 0 + 256; omega⟩

/-- The carried partial sums after all trips. -/
theorem st_acc (i : grid0.Coords) (X1 : BufTy.Contents (Elt F) arg1.view.ty) :
    st_k0_t2 (F := F) 𝒱 c bd i arg1 harg1 arg2 harg2 arg3 harg3 arg4 harg4 arg5 harg5 arg6 harg6 arg7 harg7 arg8 harg8 arg9 harg9 arg10 harg10 X1 k0_pay25 k0_t2_loop.trips = acc (arg1.view.read (Elt F) X1) := by
  have key : ∀ n, n ≤ k0_t2_loop.trips → st_k0_t2 (F := F) 𝒱 c bd i arg1 harg1 arg2 harg2 arg3 harg3 arg4 harg4 arg5 harg5 arg6 harg6 arg7 harg7 arg8 harg8 arg9 harg9 arg10 harg10 X1 k0_pay25 n = accN (arg1.view.read (Elt F) X1) n := by
    intro n
    induction n with
    | zero => intro _; rfl
    | succ n ih =>
      intro hn
      have h := st_k0_t2_succ (F := F) 𝒱 c bd i arg1 harg1 arg2 harg2 arg3 harg3 arg4 harg4 arg5 harg5 arg6 harg6 arg7 harg7 arg8 harg8 arg9 harg9 arg10 harg10 X1 k0_pay25 ⟨n, hn⟩
      refine h.trans ?_
      rw [ih (by omega), accN.eq_2, dif_pos (show n < k0_t2_loop.trips from hn)]
      unfold tripR_k0_t2 trip_k0_t2
      rfl
  exact key _ le_rfl
end

section
variable (𝒱 : Variants) (c : Dev nD) (bd : Option 𝒱.V) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole) (t : Fin grid0.N) (a : FVec F S256x128 .f32) (X1 : BufTy.Contents (Elt F) arg1.view.ty) (X2 : BufTy.Contents (Elt F) arg2.view.ty) (X8 : BufTy.Contents (Elt F) arg8.view.ty)
/-- After the chunk loop: the table of column scales. -/
theorem read_csc (f : BufTy.Contents (Elt F) arg10.view.ty) (ha : a = acc (arg1.view.read (Elt F) X1)) :
    arg10.view.read (Elt F) (arg10.view.writes (Elt F) f (pb_k0_t3 (F := F) 𝒱 c bd (grid0.coords t) arg1 harg1 arg2 harg2 arg3 harg3 arg4 harg4 arg5 harg5 arg6 harg6 arg7 harg7 arg8 harg8 arg9 harg9 arg10 harg10 a X1 X2 X8 k0_t3_loop.trips).2.2.2)
      = cscArr (arg1.view.read (Elt F) X1) (arg2.view.read (Elt F) X2) t.val (arg10.view.read (Elt F) f) := by
  subst ha
  funext y
  have hy0 : (y 0).val < 128 := (y 0).isLt
  have hy1 : (y 1).val < 8192 := (y 1).isLt
  have hs : ∀ k : Fin k0_t3_loop.trips, (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 (k.val + 1)).2.2.2
      = ⟨Rect.unit (s := S128x8192) (k0_off8 (grid0.coords t) k) S8x256.size (k0_off8_inb (grid0.coords t) k), colScale (ldx (arg1.view.read (Elt F) X1) k) (ldg (arg2.view.read (Elt F) X2) k) (acc (arg1.view.read (Elt F) X1))⟩
        :: (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 k.val).2.2.2 :=
    fun k => (congrArg (·.2.2.2) (pb_k0_t3_succ (F := F) 𝒱 c bd (grid0.coords t) arg1 harg1 arg2 harg2 arg3 harg3 arg4 harg4 arg5 harg5 arg6 harg6 arg7 harg7 arg8 harg8 arg9 harg9 arg10 harg10 _ X1 X2 X8 k)).trans (by dsimp only; rw [trip3_csc]; rfl)
  unfold cscArr
  split
  · rename_i h
    refine read_trips arg10.view f k0_t3_loop.trips (fun n => (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 n).2.2.2) _ _ rfl hs
      (fun y => cscRow (arg1.view.read (Elt F) X1) (arg2.view.read (Elt F) X2) ⟨(y 0).val % 8, Nat.mod_lt _ (by decide)⟩ (y 1)) ?_ y (chunkOf (y 1).val hy1) ?_
    · intro k z
      have hz0 : (z 0).val < 8 := (z 0).isLt
      have hz1 : (z 1).val < 256 := (z 1).isLt
      have e0 : (((Rect.unit (s := S128x8192) (k0_off8 (grid0.coords t) k) S8x256.size (k0_off8_inb (grid0.coords t) k)).emb z) 0).val = 8 * (t.val % 16) + (z 0).val := by
        show k0_off8 (grid0.coords t) k 0 + 1 * (z 0).val = _
        rw [show k0_off8 (grid0.coords t) k 0 = _ from congrFun (off8_eq t k) 0]; show 8 * (t.val % 16) + 1 * (z 0).val = _; omega
      have e1 : (((Rect.unit (s := S128x8192) (k0_off8 (grid0.coords t) k) S8x256.size (k0_off8_inb (grid0.coords t) k)).emb z) 1).val = 256 * k.val + (z 1).val := by
        show k0_off8 (grid0.coords t) k 1 + 1 * (z 1).val = _
        rw [show k0_off8 (grid0.coords t) k 1 = _ from congrFun (off8_eq t k) 1]; show 256 * k.val + 1 * (z 1).val = _; omega
      refine Eq.trans ?_ (cscRow_at _ _ _ _ k (by show _ / 256 = _; rw [e1]; omega)).symm
      congr 1
      funext b
      match b with
      | 0 => exact Fin.ext (by show (z 0).val = _ % 8; rw [e0]; omega)
      | 1 => exact Fin.ext (by show (z 1).val = _ % 256; rw [e1]; omega)
    · rw [Rect.mem_set_unit]
      intro b
      rw [off8_eq]
      match b with
      | 0 => exact ⟨by show 8 * (t.val % 16) ≤ (y 0).val; omega, by show (y 0).val < 8 * (t.val % 16) + 8; omega⟩
      | 1 => exact ⟨by show 256 * ((y 1).val / 256) ≤ (y 1).val; omega, by show (y 1).val < 256 * ((y 1).val / 256) + 256; omega⟩
  · rename_i h
    refine read_trips_of_not_mem arg10.view f k0_t3_loop.trips (fun n => (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 n).2.2.2) _ _ rfl hs y ?_
    intro k hk
    rw [Rect.mem_set_unit] at hk
    have h0 := hk 0
    rw [off8_eq] at h0
    have h0' : 8 * (t.val % 16) ≤ (y 0).val ∧ (y 0).val < 8 * (t.val % 16) + 8 := h0
    omega
end

end Cert.KernelIdeal.Hand
end
-- ==== Proof.Run.lean ====
module
public import proofs.«01_k».proof.Proof.Trips
public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.VecWindow
public import Idealize.ShloMosaic.Lib.Tactic
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
/-! # The kernel body, run once: what every operand holds afterwards -/

local notation "𝕄" => MT nD τ sig Unit (Elt F) ℕ (UR sig nD τ) ℕ

set_option maxHeartbeats 2000000 in
/-- A point that neither fills the table nor writes the column scales out. -/
theorem run_mid (c : Dev nD) (t : Fin grid0.N) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)
    (hc1 : ¬ k0_cond1 (grid0.coords t) = 1#1) (hc2 : ¬ k0_cond2 (grid0.coords t) = 1#1)
    (x : Vec F S256x8192 .bf16) (g : Vec F S1x8192 .bf16) (D : Vec F S32x256x256 .bf16) (C : Vec F S128x8192 .f32) (Z : Vec F S8192x128 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d) ∗ (∃ d, owns (c : Thread nD τ) arg5 fullShare d) ∗ owns (c : Thread nD τ) arg6 fullShare Z ∗ (∃ d, owns (c : Thread nD τ) arg7 fullShare d) ∗ owns (c : Thread nD τ) arg8 fullShare D ∗ (∃ d, owns (c : Thread nD τ) arg9 fullShare d) ∗ owns (c : Thread nD τ) arg10 fullShare C
        ∗ (iprop(owns (c : Thread nD τ) arg1 fullShare x ∗ owns (c : Thread nD τ) arg2 fullShare g ∗ owns (c : Thread nD τ) arg3 fullShare (rcArr x D) ∗ owns (c : Thread nD τ) arg4 fullShare (k0_pay32 (rscArr x D)) ∗ owns (c : Thread nD τ) arg5 fullShare (ccArr x g) ∗ owns (c : Thread nD τ) arg6 fullShare Z ∗ owns (c : Thread nD τ) arg7 fullShare (k0_pay29 (acc x)) ∗ owns (c : Thread nD τ) arg8 fullShare D ∗ (∃ d, owns (c : Thread nD τ) arg9 fullShare d) ∗ owns (c : Thread nD τ) arg10 fullShare (cscArr x g t.val C)) -∗ K ⟨⟩))
      ⊢ wp frame (wpE (defs₀ (F := F)) Variants.none c none) Set.univ
          (cc0_rmsnorm_fp8_cast_transpose (grid0.coords t) arg1 harg1 arg2 harg2 arg3 harg3 arg4 harg4 arg5 harg5 arg6 harg6 arg7 harg7 arg8 harg8 arg9 harg9 arg10 harg10) K := by
  simp only [cc0_rmsnorm_fp8_cast_transpose_eq_skeleton]; unfold cc0_rmsnorm_fp8_cast_transpose_skel
  unfold owns
  iintro ⟨⟨%f1, %e1, H1⟩, ⟨%f2, %e2, H2⟩, ⟨%d3, %f3, -, H3⟩, ⟨%d4, %f4, -, H4⟩, ⟨%d5, %f5, -, H5⟩, ⟨%f6, %e6, H6⟩, ⟨%d7, %f7, -, H7⟩, ⟨%f8, %e8, H8⟩, ⟨%d9, %f9, -, H9⟩, ⟨%f10, %e10, H10⟩, Hk⟩
  subst e1 e2 e6 e8 e10
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (read_rc Variants.none c none arg1 harg1 arg2 harg2 arg3 harg3 arg4 harg4 arg5 harg5 arg6 harg6 arg7 harg7 arg8 harg8 arg9 harg9 arg10 harg10 (grid0.coords t) _ f1 f2 _ f3 (st_acc Variants.none c none arg1 harg1 arg2 harg2 arg3 harg3 arg4 harg4 arg5 harg5 arg6 harg6 arg7 harg7 arg8 harg8 arg9 harg9 arg10 harg10 (grid0.coords t) f1)).trans ?_; rfl
  isplitl [H4]
  · iexists _; isplitr; swap; · iexact H4
    ipureintro; sl_unfold_words; refine (View.read_writes_full _ _ _ _ _).trans (congrArg k0_pay32 ((View.readAt_full _ _ _).trans ((read_rsc Variants.none c none arg1 harg1 arg2 harg2 arg3 harg3 arg4 harg4 arg5 harg5 arg6 harg6 arg7 harg7 arg8 harg8 arg9 harg9 arg10 harg10 (grid0.coords t) _ f1 f2 _ f9 (st_acc Variants.none c none arg1 harg1 arg2 harg2 arg3 harg3 arg4 harg4 arg5 harg5 arg6 harg6 arg7 harg7 arg8 harg8 arg9 harg9 arg10 harg10 (grid0.coords t) f1)))))
  isplitl [H5]
  · iexists _; isplitr; swap; · iexact H5
    ipureintro; exact read_cc Variants.none c none arg1 harg1 arg2 harg2 arg3 harg3 arg4 harg4 arg5 harg5 arg6 harg6 arg7 harg7 arg8 harg8 arg9 harg9 arg10 harg10 (grid0.coords t) _ f1 f2 _ f5 (st_acc Variants.none c none arg1 harg1 arg2 harg2 arg3 harg3 arg4 harg4 arg5 harg5 arg6 harg6 arg7 harg7 arg8 harg8 arg9 harg9 arg10 harg10 (grid0.coords t) f1)
  isplitl [H6]
  · iexists _; isplitr; swap; · iexact H6
    ipureintro; rfl
  isplitl [H7]
  · iexists _; isplitr; swap; · iexact H7
    ipureintro; sl_unfold_words; exact (View.read_writes_full _ _ _ _ _).trans (congrArg k0_pay29 (st_acc Variants.none c none arg1 harg1 arg2 harg2 arg3 harg3 arg4 harg4 arg5 harg5 arg6 harg6 arg7 harg7 arg8 harg8 arg9 harg9 arg10 harg10 (grid0.coords t) f1))
  isplitl [H8]
  · iexists _; isplitr; swap; · iexact H8
    ipureintro; rfl
  isplitl [H9]
  · iexists _, _; isplitr; swap; · iexact H9
    ipureintro; rfl
  iexists _; isplitr; swap; · iexact H10
  ipureintro; exact read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)

set_option maxHeartbeats 2000000 in
/-- The first point: it fills the table of diagonal matrices. -/
theorem run_first (c : Dev nD) (t : Fin grid0.N) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)
    (hc1 : k0_cond1 (grid0.coords t) = 1#1) (hc2 : ¬ k0_cond2 (grid0.coords t) = 1#1)
    (x : Vec F S256x8192 .bf16) (g : Vec F S1x8192 .bf16) (D : Vec F S32x256x256 .bf16) (C : Vec F S128x8192 .f32) (Z : Vec F S8192x128 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d) ∗ (∃ d, owns (c : Thread nD τ) arg5 fullShare d) ∗ owns (c : Thread nD τ) arg6 fullShare Z ∗ (∃ d, owns (c : Thread nD τ) arg7 fullShare d) ∗ owns (c : Thread nD τ) arg8 fullShare D ∗ (∃ d, owns (c : Thread nD τ) arg9 fullShare d) ∗ owns (c : Thread nD τ) arg10 fullShare C
        ∗ (iprop(owns (c : Thread nD τ) arg1 fullShare x ∗ owns (c : Thread nD τ) arg2 fullShare g ∗ owns (c : Thread nD τ) arg3 fullShare (rcArr x (dgArr g)) ∗ owns (c : Thread nD τ) arg4 fullShare (k0_pay32 (rscArr x (dgArr g))) ∗ owns (c : Thread nD τ) arg5 fullShare (ccArr x g) ∗ owns (c : Thread nD τ) arg6 fullShare Z ∗ owns (c : Thread nD τ) arg7 fullShare (k0_pay29 (acc x)) ∗ owns (c : Thread nD τ) arg8 fullShare (dgArr g) ∗ (∃ d, owns (c : Thread nD τ) arg9 fullShare d) ∗ owns (c : Thread nD τ) arg10 fullShare (cscArr x g t.val C)) -∗ K ⟨⟩))
      ⊢ wp frame (wpE (defs₀ (F := F)) Variants.none c none) Set.univ
          (cc0_rmsnorm_fp8_cast_transpose (grid0.coords t) arg1 harg1 arg2 harg2 arg3 harg3 arg4 harg4 arg5 harg5 arg6 harg6 arg7 harg7 arg8 harg8 arg9 harg9 arg10 harg10) K := by
  simp only [cc0_rmsnorm_fp8_cast_transpose_eq_skeleton]; unfold cc0_rmsnorm_fp8_cast_transpose_skel
  unfold owns
  iintro ⟨⟨%f1, %e1, H1⟩, ⟨%f2, %e2, H2⟩, ⟨%d3, %f3, -, H3⟩, ⟨%d4, %f4, -, H4⟩, ⟨%d5, %f5, -, H5⟩, ⟨%f6, %e6, H6⟩, ⟨%d7, %f7, -, H7⟩, ⟨%f8, %e8, H8⟩, ⟨%d9, %f9, -, H9⟩, ⟨%f10, %e10, H10⟩, Hk⟩
  subst e1 e2 e6 e8 e10
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (read_rc Variants.none c none arg1 harg1 arg2 harg2 arg3 harg3 arg4 harg4 arg5 harg5 arg6 harg6 arg7 harg7 arg8 harg8 arg9 harg9 arg10 harg10 (grid0.coords t) _ f1 f2 _ f3 (st_acc Variants.none c none arg1 harg1 arg2 harg2 arg3 harg3 arg4 harg4 arg5 harg5 arg6 harg6 arg7 harg7 arg8 harg8 arg9 harg9 arg10 harg10 (grid0.coords t) f1)).trans ?_; exact congrArg _ (read_dg Variants.none c none arg1 harg1 arg2 harg2 arg3 harg3 arg4 harg4 arg5 harg5 arg6 harg6 arg7 harg7 arg8 harg8 arg9 harg9 arg10 harg10 (grid0.coords t) hc1 f2 f8)
  isplitl [H4]
  · iexists _; isplitr; swap; · iexact H4
    ipureintro; sl_unfold_words; refine (View.read_writes_full _ _ _ _ _).trans (congrArg k0_pay32 ((View.readAt_full _ _ _).trans ((read_rsc Variants.none c none arg1 harg1 arg2 harg2 arg3 harg3 arg4 harg4 arg5 harg5 arg6 harg6 arg7 harg7 arg8 harg8 arg9 harg9 arg10 harg10 (grid0.coords t) _ f1 f2 _ f9 (st_acc Variants.none c none arg1 harg1 arg2 harg2 arg3 harg3 arg4 harg4 arg5 harg5 arg6 harg6 arg7 harg7 arg8 harg8 arg9 harg9 arg10 harg10 (grid0.coords t) f1)).trans (congrArg _ (read_dg Variants.none c none arg1 harg1 arg2 harg2 arg3 harg3 arg4 harg4 arg5 harg5 arg6 harg6 arg7 harg7 arg8 harg8 arg9 harg9 arg10 harg10 (grid0.coords t) hc1 f2 f8)))))
  isplitl [H5]
  · iexists _; isplitr; swap; · iexact H5
    ipureintro; exact read_cc Variants.none c none arg1 harg1 arg2 harg2 arg3 harg3 arg4 harg4 arg5 harg5 arg6 harg6 arg7 harg7 arg8 harg8 arg9 harg9 arg10 harg10 (grid0.coords t) _ f1 f2 _ f5 (st_acc Variants.none c none arg1 harg1 arg2 harg2 arg3 harg3 arg4 harg4 arg5 harg5 arg6 harg6 arg7 harg7 arg8 harg8 arg9 harg9 arg10 harg10 (grid0.coords t) f1)
  isplitl [H6]
  · iexists _; isplitr; swap; · iexact H6
    ipureintro; rfl
  isplitl [H7]
  · iexists _; isplitr; swap; · iexact H7
    ipureintro; sl_unfold_words; exact (View.read_writes_full _ _ _ _ _).trans (congrArg k0_pay29 (st_acc Variants.none c none arg1 harg1 arg2 harg2 arg3 harg3 arg4 harg4 arg5 harg5 arg6 harg6 arg7 harg7 arg8 harg8 arg9 harg9 arg10 harg10 (grid0.coords t) f1))
  isplitl [H8]
  · iexists _; isplitr; swap; · iexact H8
    ipureintro; exact read_dg Variants.none c none arg1 harg1 arg2 harg2 arg3 harg3 arg4 harg4 arg5 harg5 arg6 harg6 arg7 harg7 arg8 harg8 arg9 harg9 arg10 harg10 (grid0.coords t) hc1 f2 f8
  isplitl [H9]
  · iexists _, _; isplitr; swap; · iexact H9
    ipureintro; rfl
  iexists _; isplitr; swap; · iexact H10
  ipureintro; exact read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)

set_option maxHeartbeats 2000000 in
/-- A point that writes the column scales out. -/
theorem run_out (c : Dev nD) (t : Fin grid0.N) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)
    (hc1 : ¬ k0_cond1 (grid0.coords t) = 1#1) (hc2 : k0_cond2 (grid0.coords t) = 1#1)
    (x : Vec F S256x8192 .bf16) (g : Vec F S1x8192 .bf16) (D : Vec F S32x256x256 .bf16) (C : Vec F S128x8192 .f32) (Z : Vec F S8192x128 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d) ∗ (∃ d, owns (c : Thread nD τ) arg5 fullShare d) ∗ owns (c : Thread nD τ) arg6 fullShare Z ∗ (∃ d, owns (c : Thread nD τ) arg7 fullShare d) ∗ owns (c : Thread nD τ) arg8 fullShare D ∗ (∃ d, owns (c : Thread nD τ) arg9 fullShare d) ∗ owns (c : Thread nD τ) arg10 fullShare C
        ∗ (iprop(owns (c : Thread nD τ) arg1 fullShare x ∗ owns (c : Thread nD τ) arg2 fullShare g ∗ owns (c : Thread nD τ) arg3 fullShare (rcArr x D) ∗ owns (c : Thread nD τ) arg4 fullShare (k0_pay32 (rscArr x D)) ∗ owns (c : Thread nD τ) arg5 fullShare (ccArr x g) ∗ owns (c : Thread nD τ) arg6 fullShare (csArr (cscArr x g t.val C)) ∗ owns (c : Thread nD τ) arg7 fullShare (k0_pay29 (acc x)) ∗ owns (c : Thread nD τ) arg8 fullShare D ∗ (∃ d, owns (c : Thread nD τ) arg9 fullShare d) ∗ owns (c : Thread nD τ) arg10 fullShare (cscArr x g t.val C)) -∗ K ⟨⟩))
      ⊢ wp frame (wpE (defs₀ (F := F)) Variants.none c none) Set.univ
          (cc0_rmsnorm_fp8_cast_transpose (grid0.coords t) arg1 harg1 arg2 harg2 arg3 harg3 arg4 harg4 arg5 harg5 arg6 harg6 arg7 harg7 arg8 harg8 arg9 harg9 arg10 harg10) K := by
  simp only [cc0_rmsnorm_fp8_cast_transpose_eq_skeleton]; unfold cc0_rmsnorm_fp8_cast_transpose_skel
  unfold owns
  iintro ⟨⟨%f1, %e1, H1⟩, ⟨%f2, %e2, H2⟩, ⟨%d3, %f3, -, H3⟩, ⟨%d4, %f4, -, H4⟩, ⟨%d5, %f5, -, H5⟩, ⟨%f6, %e6, H6⟩, ⟨%d7, %f7, -, H7⟩, ⟨%f8, %e8, H8⟩, ⟨%d9, %f9, -, H9⟩, ⟨%f10, %e10, H10⟩, Hk⟩
  subst e1 e2 e6 e8 e10
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (read_rc Variants.none c none arg1 harg1 arg2 harg2 arg3 harg3 arg4 harg4 arg5 harg5 arg6 harg6 arg7 harg7 arg8 harg8 arg9 harg9 arg10 harg10 (grid0.coords t) _ f1 f2 _ f3 (st_acc Variants.none c none arg1 harg1 arg2 harg2 arg3 harg3 arg4 harg4 arg5 harg5 arg6 harg6 arg7 harg7 arg8 harg8 arg9 harg9 arg10 harg10 (grid0.coords t) f1)).trans ?_; rfl
  isplitl [H4]
  · iexists _; isplitr; swap; · iexact H4
    ipureintro; sl_unfold_words; refine (View.read_writes_full _ _ _ _ _).trans (congrArg k0_pay32 ((View.readAt_full _ _ _).trans ((read_rsc Variants.none c none arg1 harg1 arg2 harg2 arg3 harg3 arg4 harg4 arg5 harg5 arg6 harg6 arg7 harg7 arg8 harg8 arg9 harg9 arg10 harg10 (grid0.coords t) _ f1 f2 _ f9 (st_acc Variants.none c none arg1 harg1 arg2 harg2 arg3 harg3 arg4 harg4 arg5 harg5 arg6 harg6 arg7 harg7 arg8 harg8 arg9 harg9 arg10 harg10 (grid0.coords t) f1)))))
  isplitl [H5]
  · iexists _; isplitr; swap; · iexact H5
    ipureintro; exact read_cc Variants.none c none arg1 harg1 arg2 harg2 arg3 harg3 arg4 harg4 arg5 harg5 arg6 harg6 arg7 harg7 arg8 harg8 arg9 harg9 arg10 harg10 (grid0.coords t) _ f1 f2 _ f5 (st_acc Variants.none c none arg1 harg1 arg2 harg2 arg3 harg3 arg4 harg4 arg5 harg5 arg6 harg6 arg7 harg7 arg8 harg8 arg9 harg9 arg10 harg10 (grid0.coords t) f1)
  isplitl [H6]
  · iexists _; isplitr; swap; · iexact H6
    ipureintro; exact (read_cs Variants.none c none arg1 harg1 arg2 harg2 arg3 harg3 arg4 harg4 arg5 harg5 arg6 harg6 arg7 harg7 arg8 harg8 arg9 harg9 arg10 harg10 (grid0.coords t) hc2 _ f6).trans (congrArg csArr (read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)))
  isplitl [H7]
  · iexists _; isplitr; swap; · iexact H7
    ipureintro; sl_unfold_words; exact (View.read_writes_full _ _ _ _ _).trans (congrArg k0_pay29 (st_acc Variants.none c none arg1 harg1 arg2 harg2 arg3 harg3 arg4 harg4 arg5 harg5 arg6 harg6 arg7 harg7 arg8 harg8 arg9 harg9 arg10 harg10 (grid0.coords t) f1))
  isplitl [H8]
  · iexists _; isplitr; swap; · iexact H8
    ipureintro; rfl
  isplitl [H9]
  · iexists _, _; isplitr; swap; · iexact H9
    ipureintro; rfl
  iexists _; isplitr; swap; · iexact H10
  ipureintro; exact read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)

end Cert.KernelIdeal.Hand
end
-- ==== Proof.Body.lean ====
module
public import proofs.«01_k».proof.Proof.Run
public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.VecWindow
public import Idealize.ShloMosaic.Lib.Tactic
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
/-! # The proof data: what every buffer holds at every grid point, and the body's obligation at a point -/

local notation "𝕄" => MT nD τ sig Unit (Elt F) ℕ (UR sig nD τ) ℕ

variable (m : (ℓ : Loc nD τ sig) → Buf (Elt F) ℓ) (ρ : Dev nD → PrngReg)

/-- The grid point of a number (the last point's for numbers off the grid). -/
def ptOf (n : ℕ) : Fin cfg0.N := ⟨min n 35, by rw [show cfg0.N = 36 from N_0]; omega⟩
theorem ptOf_val (t : Fin cfg0.N) : ptOf t.val = t :=
  Fin.ext (by have h : t.val < 36 := Nat.lt_of_lt_of_eq t.isLt N_0; show min t.val 35 = t.val; omega)

/-- The input rows and the weights at a point. -/
def xAt (c : Dev nD) (t : Fin cfg0.N) : Vec F S256x8192 .bf16 := iblk m c 0 t
def gAt (c : Dev nD) (t : Fin cfg0.N) : Vec F S1x8192 .bf16 := iblk m c 1 t
/-- The weights are the same at every point. -/
theorem gAt_eq (c : Dev nD) (t : Fin cfg0.N) : gAt m c t = gAt m c (ptOf 0) := rfl
/-- The table of diagonal matrices. -/
def dgAt (c : Dev nD) : Vec F S32x256x256 .bf16 := dgArr (gAt m c (ptOf 0))

/-- The latest of the first `n` points whose number is `r` modulo 16. -/
def latest (n r : ℕ) : ℕ := (n - 1) - (n - 1 + 16 - r) % 16
/-- The table of column scales after the first `n` points. -/
def tblN (c : Dev nD) (n : ℕ) : Vec F S128x8192 .f32 := fun y =>
  cscRow (xAt m c (ptOf (latest n ((y 0).val / 8)))) (gAt m c (ptOf (latest n ((y 0).val / 8)))) ⟨(y 0).val % 8, Nat.mod_lt _ (by decide)⟩ (y 1)
/-- `C` agrees with that table on the rows written so far. -/
def Inv (c : Dev nD) (n : ℕ) (C : Vec F S128x8192 .f32) : Prop := ∀ y, (y 0).val / 8 < n → C y = tblN m c n y

theorem inv_zero (c : Dev nD) (C : Vec F S128x8192 .f32) : Inv m c 0 C := fun y h => absurd h (Nat.not_lt_zero _)
theorem inv_succ (c : Dev nD) (t : Fin cfg0.N) (C : Vec F S128x8192 .f32) (h : Inv m c t.val C) :
    Inv m c (t.val + 1) (cscArr (xAt m c t) (gAt m c t) t.val C) := by
  intro y hy
  have hy0 : (y 0).val < 128 := (y 0).isLt
  unfold cscArr
  split
  · rename_i e
    unfold tblN
    have hl : latest (t.val + 1) ((y 0).val / 8) = t.val := by unfold latest; omega
    rw [hl, ptOf_val]
  · rename_i e
    have hlt : (y 0).val / 8 < t.val := by omega
    rw [h y hlt]
    unfold tblN
    have hl : latest (t.val + 1) ((y 0).val / 8) = latest t.val ((y 0).val / 8) := by unfold latest; omega
    rw [hl]
/-- From point 15 on the whole table is known. -/
theorem inv_full (c : Dev nD) (n : ℕ) (hn : 16 ≤ n) (C : Vec F S128x8192 .f32) (h : Inv m c n C) : C = tblN m c n :=
  funext fun y => h y (by have : (y 0).val < 128 := (y 0).isLt; omega)

theorem cond1_iff : ∀ t : Fin grid0.N, k0_cond1 (grid0.coords t) = 1#1 ↔ t.val = 0 := by decide +kernel
theorem cond2_ge : ∀ t : Fin grid0.N, k0_cond2 (grid0.coords t) = 1#1 → 15 ≤ t.val := by decide +kernel
theorem flush5 : ∀ t : Fin grid0.N, ¬ k0_cond2 (grid0.coords t) = 1#1 → win0_5.flush t = false := by decide +kernel

abbrev sc0 : Memref sig .tc .vmem S32x256x256 .bf16 := Memref.whole cc0_scratch0
abbrev sc1 : Memref sig .tc .vmem S256x256 .f32 := Memref.whole cc0_scratch1
abbrev sc2 : Memref sig .tc .vmem S128x8192 .f32 := Memref.whole cc0_scratch2

/-- What holds between points, after `n` of them: the table of diagonal matrices once it is filled, any row scales, the rows of
    column scales written so far, the generator register. -/
def PhiN (c : Dev nD) (n : ℕ) : sProp 𝕄 :=
  iprop((∃ D, ⌜n ≠ 0 → D = dgAt m c⌝ ∗ owns (c : Thread nD τ) sc0 fullShare D)
    ∗ (∃ d, owns (c : Thread nD τ) sc1 fullShare d)
    ∗ (∃ C, ⌜Inv m c n C⌝ ∗ owns (c : Thread nD τ) sc2 fullShare C)
    ∗ ∃ r, prngReg c r)

def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => rcArr (xAt m c t) (dgAt m c)
    | 3 => fun t => k0_pay32 (rscArr (xAt m c t) (dgAt m c))
    | 4 => fun t => ccArr (xAt m c t) (gAt m c t)
    | 5 => fun t => csArr (tblN m c (t.val + 1))
    | 6 => fun t => k0_pay29 (acc (xAt m c t))
    | ⟨_ + 7, h⟩ => absurd h (Nat.not_lt.2 (Nat.le_add_left _ _))
  Φ t := (fun (n : ℕ) (_ : n ≤ cfg0.N) => PhiN m c n) t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiN m c t.val := by
  dsimp only [dats]; exact Pipeline.Dat.Φ_castSucc (fun n _ => PhiN m c n) t
theorem Phi_succ (c : Dev nD) (t : Fin cfg0.N) : (dats m 0 c).Φ t.succ = PhiN m c (t.val + 1) := by
  dsimp only [dats]; rfl
theorem before0 (c : Dev nD) (t : Fin cfg0.N) (d) : (dats m 0 c).before 0 t d = xAt m c t := before0_0_of m _ (A_eq m c 0) (fun _ => rfl) t d
theorem before1 (c : Dev nD) (t : Fin cfg0.N) (d) : (dats m 0 c).before 1 t d = gAt m c t := before0_1_of m _ (A_eq m c 1) (fun _ => rfl) t d

theorem after5 (c : Dev nD) (t : Fin cfg0.N) : (dats m 0 c).after 5 t = csArr (tblN m c (t.val + 1)) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ (dats m 0 c).leavesExact 5 t ∗ owns (c : Thread nD τ) (win0_6.stage (cfg0.slots t 6)) fullShare ((dats m 0 c).after 6 t))

theorem idle5 (t : Fin grid0.N) (h : ¬ k0_cond2 (grid0.coords t) = 1#1) : cfg0.idle 5 (cfg0.grid.coords t) = true := by
  show (!(k0_cond2 (grid0.coords t) == 1#1)) = true
  simpa using h
theorem idle5' (t : Fin grid0.N) (h : k0_cond2 (grid0.coords t) = 1#1) : cfg0.idle 5 (cfg0.grid.coords t) = false := by
  show (!(k0_cond2 (grid0.coords t) == 1#1)) = false
  simp [h]
theorem leaves_out (c : Dev nD) (t : Fin cfg0.N) (h : k0_cond2 (grid0.coords t) = 1#1) :
    (dats m 0 c).leavesExact 5 t = owns (c : Thread nD τ) (win0_5.stage (cfg0.slots t 5)) fullShare ((dats m 0 c).after 5 t) := by
  unfold Pipeline.Dat.leavesExact; rw [idle5' t h]

set_option maxHeartbeats 1000000 in
theorem sound_first (c : Dev nD) (t : Fin cfg0.N) (hc1 : k0_cond1 (grid0.coords t) = 1#1) (hc2 : ¬ k0_cond2 (grid0.coords t) = 1#1) :
    bodyPre m c t ⊢ wp frame (wpE (defs₀ (F := F)) Variants.none c none) Set.univ (bodyAt0 t) (fun _ => bodyPost m c t) := by
  unfold bodyPre bodyPost bodyAt0
  rw [Phi_castSucc, Phi_succ, show (dats m 0 c).owesAt () t.succ = (dats m 0 c).owesAt () t.castSucc from rfl]
  rw [Pipeline.Dat.leavesExact_idle (dats m 0 c) 5 t (idle5 t hc2) (flush5 t hc2)]
  simp only [before0, before1]
  unfold PhiN
  iintro ⟨⟨⟨%Dd, %hD, S0⟩, S1, ⟨%C, %hC, S2⟩, Hg⟩, HO, ⟨%d0, H0⟩, ⟨%d1, H1⟩, ⟨%d2, H2⟩, ⟨%d3, H3⟩, ⟨%d4, H4⟩, ⟨%d5, H5⟩, ⟨%d6, H6⟩⟩
  iapply (run_first c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) hc1 hc2 (xAt m c t) (gAt m c t) Dd C ((dats m 0 c).before 5 t d5) _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0]
    · iexists _; isplitr; swap; · iexact S0
      ipureintro; exact fun _ => rfl
    isplitl [S1]; · iexact S1
    isplitl [S2]
    · iexists _; isplitr; swap; · iexact S2
      ipureintro; exact inv_succ m c t C hC
    iexact Hg
  isplitl [HO]; · iexact HO
  isplitl [H0]; · iexact H0
  isplitl [H1]; · iexact H1
  isplitl [H2]; · iexact H2
  isplitl [H3]; · iexact H3
  isplitl [H4]; · iexact H4
  isplitl [H5]; · iexists d5; iexact H5
  iexact H6

set_option maxHeartbeats 1000000 in
theorem sound_mid (c : Dev nD) (t : Fin cfg0.N) (hc1 : ¬ k0_cond1 (grid0.coords t) = 1#1) (hc2 : ¬ k0_cond2 (grid0.coords t) = 1#1) :
    bodyPre m c t ⊢ wp frame (wpE (defs₀ (F := F)) Variants.none c none) Set.univ (bodyAt0 t) (fun _ => bodyPost m c t) := by
  unfold bodyPre bodyPost bodyAt0
  rw [Phi_castSucc, Phi_succ, show (dats m 0 c).owesAt () t.succ = (dats m 0 c).owesAt () t.castSucc from rfl]
  rw [Pipeline.Dat.leavesExact_idle (dats m 0 c) 5 t (idle5 t hc2) (flush5 t hc2)]
  simp only [before0, before1]
  unfold PhiN
  iintro ⟨⟨⟨%Dd, %hD, S0⟩, S1, ⟨%C, %hC, S2⟩, Hg⟩, HO, ⟨%d0, H0⟩, ⟨%d1, H1⟩, ⟨%d2, H2⟩, ⟨%d3, H3⟩, ⟨%d4, H4⟩, ⟨%d5, H5⟩, ⟨%d6, H6⟩⟩
  replace hD := hD (fun e => hc1 ((cond1_iff t).mpr e))
  iapply (run_mid c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) hc1 hc2 (xAt m c t) (gAt m c t) Dd C ((dats m 0 c).before 5 t d5) _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0]
    · iexists _; isplitr; swap; · iexact S0
      ipureintro; exact fun _ => hD
    isplitl [S1]; · iexact S1
    isplitl [S2]
    · iexists _; isplitr; swap; · iexact S2
      ipureintro; exact inv_succ m c t C hC
    iexact Hg
  isplitl [HO]; · iexact HO
  isplitl [H0]; · iexact H0
  isplitl [H1]; · iexact H1
  isplitl [H2]; · rw [show (dats m 0 c).after 2 t = rcArr (xAt m c t) Dd from by rw [hD]; rfl]; iexact H2
  isplitl [H3]; · rw [show (dats m 0 c).after 3 t = k0_pay32 (rscArr (xAt m c t) Dd) from by rw [hD]; rfl]; iexact H3
  isplitl [H4]; · iexact H4
  isplitl [H5]; · iexists d5; iexact H5
  iexact H6

set_option maxHeartbeats 1000000 in
theorem sound_out (c : Dev nD) (t : Fin cfg0.N) (hc1 : ¬ k0_cond1 (grid0.coords t) = 1#1) (hc2 : k0_cond2 (grid0.coords t) = 1#1) :
    bodyPre m c t ⊢ wp frame (wpE (defs₀ (F := F)) Variants.none c none) Set.univ (bodyAt0 t) (fun _ => bodyPost m c t) := by
  unfold bodyPre bodyPost bodyAt0
  rw [Phi_castSucc, Phi_succ, show (dats m 0 c).owesAt () t.succ = (dats m 0 c).owesAt () t.castSucc from rfl]
  rw [show (dats m 0 c).leavesExact 5 t = owns (c : Thread nD τ) (win0_5.stage (cfg0.slots t 5)) fullShare ((dats m 0 c).after 5 t) from leaves_out m c t hc2]
  simp only [before0, before1]
  unfold PhiN
  iintro ⟨⟨⟨%Dd, %hD, S0⟩, S1, ⟨%C, %hC, S2⟩, Hg⟩, HO, ⟨%d0, H0⟩, ⟨%d1, H1⟩, ⟨%d2, H2⟩, ⟨%d3, H3⟩, ⟨%d4, H4⟩, ⟨%d5, H5⟩, ⟨%d6, H6⟩⟩
  replace hD := hD (fun e => hc1 ((cond1_iff t).mpr e))
  iapply (run_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) hc1 hc2 (xAt m c t) (gAt m c t) Dd C ((dats m 0 c).before 5 t d5) _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0]
    · iexists _; isplitr; swap; · iexact S0
      ipureintro; exact fun _ => hD
    isplitl [S1]; · iexact S1
    isplitl [S2]
    · iexists _; isplitr; swap; · iexact S2
      ipureintro; exact inv_succ m c t C hC
    iexact Hg
  isplitl [HO]; · iexact HO
  isplitl [H0]; · iexact H0
  isplitl [H1]; · iexact H1
  isplitl [H2]; · rw [show (dats m 0 c).after 2 t = rcArr (xAt m c t) Dd from by rw [hD]; rfl]; iexact H2
  isplitl [H3]; · rw [show (dats m 0 c).after 3 t = k0_pay32 (rscArr (xAt m c t) Dd) from by rw [hD]; rfl]; iexact H3
  isplitl [H4]; · iexact H4
  isplitl [H5]; · rw [after5, ← inv_full m c (t.val + 1) (by have := cond2_ge t hc2; omega) _ (inv_succ m c t C hC)]; iexact H5
  iexact H6

theorem sound_body (c : Dev nD) (t : Fin cfg0.N) :
    bodyPre m c t ⊢ wp frame (wpE (defs₀ (F := F)) Variants.none c none) Set.univ (bodyAt0 t) (fun _ => bodyPost m c t) := by
  by_cases hc1 : k0_cond1 (grid0.coords t) = 1#1
  · exact sound_first m c t hc1 (fun h => by have := cond2_ge t h; have := (cond1_iff t).mp hc1; omega)
  · by_cases hc2 : k0_cond2 (grid0.coords t) = 1#1
    · exact sound_out m c t hc1 hc2
    · exact sound_mid m c t hc1 hc2

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem phi_in (c : Dev nD) : Pipeline.ΦA spec0 c ⊢ (dats m 0 c).Φ 0 := by
  show _ ⊢ PhiN m c 0
  unfold Pipeline.ΦA PhiN
  rw [scopedRest0_eq]
  simp only [owns_whole]
  iintro ⟨⟨⟨%f0, S0⟩, ⟨%f1, S1⟩, ⟨%f2, S2⟩⟩, Hg⟩
  isplitl [S0]
  · iexists f0; isplitr; · ipureintro; exact fun h => absurd rfl h
    iexact S0
  isplitl [S1]; · iexists f1; iexact S1
  isplitl [S2]
  · iexists f2; isplitr; · ipureintro; exact inv_zero m c f2
    iexact S2
  iexact Hg
theorem phi_out (c : Dev nD) : (dats m 0 c).Φ (Fin.last cfg0.N) ⊢ Pipeline.ΦA spec0 c := by
  show PhiN m c cfg0.N ⊢ _
  unfold Pipeline.ΦA PhiN
  rw [scopedRest0_eq]
  simp only [owns_whole]
  iintro ⟨⟨%f0, -, S0⟩, ⟨%f1, S1⟩, ⟨%f2, -, S2⟩, Hg⟩
  isplitl [S0 S1 S2]
  · isplitl [S0]; · iexists f0; iexact S0
    isplitl [S1]; · iexists f1; iexact S1
    iexists f2; iexact S2
  iexact Hg

set_option backward.isDefEq.respectTransparency.types false in
/-- Every weakly fair execution of the program terminates; the final state's arrays are what the points wrote, every other unscoped
    buffer is what the host operations leave, and every semaphore counter is zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m) (hQ' := fun _ h => h)

end Cert.KernelIdeal.Hand
end
-- ==== Proof.WordVals.lean ====
module
public import proofs.«01_k».proof.Proof.Gen.Kernel.Loops
public import Idealize.ShloMosaic.Lib.Pipeline.FrameBody
@[expose] public section
set_option maxRecDepth 16384
noncomputable section
namespace Cert.Kernel.Hand
open Cert.Kernel Cert.Kernel.Gen
open Idealize.ShloMosaic Idealize.ShloMosaic.TcCoe
variable {F : FTy → Type} [FloatOps F]

/-! # What one grid point computes, as functions of the blocks it reads

`x` is the point's 256 rows, `g` the gains, `D` the table of 32 diagonal matrices of the gains, `a` the
256×128 partial sums of squares. A chunk is 256 of the 8192 columns. -/

/-- Chunk `k` of the rows. -/
def ldx (x : Vec F S256x8192 .bf16) (k : Fin k0_t3_loop.trips) : Vec F S256x256 .bf16 :=
  View.ld x (Rect.unit (s := S256x8192) (k0_off4 k) S256x256.size (k0_off4_inb k))
/-- Chunk `k` of the gains. -/
def ldg (g : Vec F S1x8192 .bf16) (k : Fin k0_t3_loop.trips) : Vec F S1x256 .bf16 :=
  View.ld g (Rect.unit (s := S1x8192) (k0_off7 k) S1x256.size (k0_off7_inb k))
/-- Diagonal matrix `k`. -/
def ldd (D : Vec F S32x256x256 .bf16) (k : Fin k0_t3_loop.trips) : Vec F S1x256x256 .bf16 :=
  View.ld D (Rect.unit (s := S32x256x256) (k0_off5 k) S1x256x256.size (k0_off5_inb k))
/-- The partial sums of squares after `n` of the 64 lane chunks. -/
def accN (x : Vec F S256x8192 .bf16) : ℕ → FVec F S256x128 .f32
  | 0 => k0_pay25
  | n + 1 => if h : n < k0_t2_loop.trips then
      k0_pay26 (accN x n) (View.ld x (Rect.unit (s := S256x8192) (k0_off3 ⟨n, h⟩) S256x128.size (k0_off3_inb ⟨n, h⟩)))
    else accN x n
/-- The partial sums of squares. -/
def acc (x : Vec F S256x8192 .bf16) : FVec F S256x128 .f32 := accN x k0_t2_loop.trips

section Chunk
variable (xb : Vec F S256x256 .bf16) (db : Vec F S1x256x256 .bf16) (gb : Vec F S1x256 .bf16) (a : FVec F S256x128 .f32)
/-- Row groups: the largest magnitudes. -/
def rowMax : FVec F S8x256 .f32 := k0_pay4 (k0_pay28 a) xb db
/-- Row groups: the first 26 of the 31 rounds of the search for the word. -/
def rowSearch : IVec S8x256 32 :=
  k0_pay7 (rowMax xb db a) (k0_pay6 (rowMax xb db a) (k0_pay5 (k0_pay28 a) xb db) 16777216#32) 16384#32
/-- Row groups: the scales. -/
def rowScale : FVec F S8x256 .f32 := k0_pay9 (rowMax xb db a) (rowSearch xb db a) 16#32
/-- Row groups: the codes. -/
def rowCodes : FVec F S256x256 .fp8e4m3 :=
  k0_pay11 (k0_pay3 xb db) (k0_pay10 (k0_pay28 a) (rowMax xb db a) (rowSearch xb db a) 16#32)
/-- Column groups: the largest magnitudes. -/
def colMax : FVec F S8x256 .f32 := k0_pay14 (k0_pay27 a) (k0_pay2 xb) gb
/-- Column groups: the search after 14 rounds. -/
def colSearch1 : IVec S8x256 32 :=
  k0_pay17 (colMax xb gb a) (k0_pay15 (k0_pay27 a) (k0_pay2 xb) gb) (k0_pay16 (k0_pay27 a) (k0_pay2 xb) gb)
/-- Column groups: the next word tried. -/
def colTry1 : IVec S8x256 32 :=
  k0_pay18 (colMax xb gb a) (k0_pay15 (k0_pay27 a) (k0_pay2 xb) gb) (k0_pay16 (k0_pay27 a) (k0_pay2 xb) gb)
/-- Column groups: the search after 24 rounds. -/
def colSearch2 : IVec S8x256 32 := k0_pay19 (colMax xb gb a) (colSearch1 xb gb a) (colTry1 xb gb a)
/-- Column groups: the next word tried. -/
def colTry2 : IVec S8x256 32 := k0_pay20 (colMax xb gb a) (colSearch1 xb gb a) (colTry1 xb gb a)
/-- Column groups: the scales. -/
def colScale : FVec F S8x256 .f32 := k0_pay30 (k0_pay22 (colMax xb gb a) (colSearch2 xb gb a) (colTry2 xb gb a))
/-- Column groups: the codes. -/
def colCodes : FVec F S256x256 .fp8e4m3 :=
  k0_pay31 (k0_pay12 (k0_pay27 a) (k0_pay2 xb)) (k0_pay13 gb) (k0_pay23 (colMax xb gb a) (colSearch2 xb gb a) (colTry2 xb gb a))
end Chunk

theorem trips1 : k0_t1_loop.trips = 32 := by decide
theorem trips2 : k0_t2_loop.trips = 64 := by decide
theorem trips3 : k0_t3_loop.trips = 32 := by decide
theorem trips4 : k0_t4_loop.trips = 64 := by decide
/-- The chunk that holds a column. -/
def chunkOf (n : ℕ) (h : n < 8192) : Fin k0_t3_loop.trips := ⟨n / 256, by rw [trips3]; omega⟩

/-! ## The blocks a point leaves -/

variable (x : Vec F S256x8192 .bf16) (g : Vec F S1x8192 .bf16) (D : Vec F S32x256x256 .bf16)

theorem off1_inb (k : Fin k0_t1_loop.trips) : ∀ a, k0_off1 k a + S1x256.size a ≤ S1x8192.size a :=
  k0_off1_inb (grid0.coords ⟨0, by decide⟩) k (by decide)
/-- The table of diagonal matrices. -/
def dgArr : Vec F S32x256x256 .bf16 := fun y =>
  k0_pay24 (View.ld g (Rect.unit (s := S1x8192) (k0_off1 ⟨(y 0).val, by rw [trips1]; exact (y 0).isLt⟩) S1x256.size
    (off1_inb _))) (fun a => match a with | 0 => (0 : Fin 1) | 1 => y 1 | 2 => y 2)
/-- The row codes. -/
def rcArr : Vec F S256x8192 .fp8e4m3 := fun y =>
  rowCodes (ldx x (chunkOf (y 1).val (y 1).isLt)) (ldd D (chunkOf (y 1).val (y 1).isLt)) (acc x)
    (fun a => match a with | 0 => y 0 | 1 => (⟨(y 1).val % 256, Nat.mod_lt _ (by decide)⟩ : Fin 256))
/-- The row scales, group by group (each chunk's eight groups under each other). -/
def rscArr : Vec F S256x256 .f32 := fun y =>
  rowScale (ldx x ⟨(y 0).val / 8, by have := (y 0).isLt; rw [trips3]; change _ < 256 at this; omega⟩)
    (ldd D ⟨(y 0).val / 8, by have := (y 0).isLt; rw [trips3]; change _ < 256 at this; omega⟩) (acc x)
    (fun a => match a with | 0 => (⟨(y 0).val % 8, Nat.mod_lt _ (by decide)⟩ : Fin 8) | 1 => y 1)
/-- The column codes, column by column. -/
def ccArr : Vec F S8192x256 .fp8e4m3 := fun y =>
  colCodes (ldx x (chunkOf (y 0).val (y 0).isLt)) (ldg g (chunkOf (y 0).val (y 0).isLt)) (acc x)
    (fun a => match a with | 0 => (⟨(y 0).val % 256, Nat.mod_lt _ (by decide)⟩ : Fin 256) | 1 => y 1)
/-- The eight rows of column scales the point adds to the table. -/
def cscRow (r : Fin 8) (n : Fin 8192) : Elt F .f32 :=
  colScale (ldx x (chunkOf n.val n.isLt)) (ldg g (chunkOf n.val n.isLt)) (acc x)
    (fun a => match a with | 0 => r | 1 => (⟨n.val % 256, Nat.mod_lt _ (by decide)⟩ : Fin 256))
/-- The table of column scales after the point: eight rows new, the others as they were. -/
def cscArr (i : ℕ) (C : Vec F S128x8192 .f32) : Vec F S128x8192 .f32 := fun y =>
  if (y 0).val / 8 = i % 16 then cscRow x g ⟨(y 0).val % 8, Nat.mod_lt _ (by decide)⟩ (y 1) else C y
/-- The column scales written out, column by column. -/
def csArr (C : Vec F S128x8192 .f32) : Vec F S8192x128 .f32 := fun y =>
  C (fun a => match a with | 0 => y 1 | 1 => y 0)

end Cert.Kernel.Hand
end
-- ==== Proof.WordTrips.lean ====
module
public import proofs.«01_k».proof.Proof.WordVals
public import Idealize.ShloMosaic.Lib.WritesUnit
public import Idealize.ShloMosaic.Lib.Pipeline.Value
@[expose] public section
set_option maxRecDepth 16384
noncomputable section
namespace Cert.Kernel.Hand
open Cert.Kernel Cert.Kernel.Gen
open Idealize.ShloMosaic Idealize.ShloMosaic.TcCoe
variable {F : FTy → Type} [FloatOps F]
/-! # What the kernel's four loops write: the pieces of all trips together are one array -/

theorem off1_eq : ∀ k : Fin k0_t1_loop.trips, k0_off1 k = ![0, 256 * k.val] := by decide +kernel
theorem off2_eq : ∀ k : Fin k0_t1_loop.trips, k0_off2 k = ![k.val, 0, 0] := by decide +kernel
theorem off3_eq : ∀ k : Fin k0_t2_loop.trips, k0_off3 k = ![0, 128 * k.val] := by decide +kernel
theorem off4_eq : ∀ k : Fin k0_t3_loop.trips, k0_off4 k = ![0, 256 * k.val] := by decide +kernel
theorem off5_eq : ∀ k : Fin k0_t3_loop.trips, k0_off5 k = ![k.val, 0, 0] := by decide +kernel
theorem off6_eq : ∀ k : Fin k0_t3_loop.trips, k0_off6 k = ![8 * k.val, 0] := by decide +kernel
theorem off7_eq : ∀ k : Fin k0_t3_loop.trips, k0_off7 k = ![0, 256 * k.val] := by decide +kernel
theorem off8_eq : ∀ (t : Fin grid0.N) (k : Fin k0_t3_loop.trips), k0_off8 (grid0.coords t) k = ![8 * (t.val % 16), 256 * k.val] := by decide +kernel
theorem off9_eq : ∀ k : Fin k0_t3_loop.trips, k0_off9 k = ![256 * k.val, 0] := by decide +kernel
theorem off10_eq : ∀ k : Fin k0_t4_loop.trips, k0_off10 k = ![0, 128 * k.val] := by decide +kernel
theorem off11_eq : ∀ k : Fin k0_t4_loop.trips, k0_off11 k = ![128 * k.val, 0] := by decide +kernel

section
variable (𝒱 : Variants) (c : Dev nD) (bd : Option 𝒱.V) (i : grid0.Coords) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)

theorem trip1 (h1 : k0_cond1 i = 1#1) (X2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 h1 X2 k).1
      = [⟨Rect.unit (s := S32x256x256) (k0_off2 k) S1x256x256.size (k0_off2_inb i k h1),
          k0_pay24 (View.ld (arg2.view.read (Elt F) X2) (Rect.unit (s := S1x8192) (k0_off1 k) S1x256.size (off1_inb k)))⟩] := by
  unfold trip_k0_t1; rfl

theorem trip4 (h2 : k0_cond2 i = 1#1) (X10 : BufTy.Contents (Elt F) arg10.view.ty) (k : Fin k0_t4_loop.trips) :
    (trip_k0_t4 (F := F) 𝒱 c bd i arg1 harg1 arg2 harg2 arg3 harg3 arg4 harg4 arg5 harg5 arg6 harg6 arg7 harg7 arg8 harg8 arg9 harg9 arg10 harg10 h2 X10 k).1
      = [⟨Rect.unit (s := S8192x128) (k0_off11 k) S128x128.size (k0_off11_inb i k h2),
          k0_pay1 (View.ld (arg10.view.read (Elt F) X10) (Rect.unit (s := S128x8192) (k0_off10 k) S128x128.size (k0_off10_inb i k h2)))⟩] := by
  unfold trip_k0_t4; rfl

variable (a : FVec F S256x128 .f32) (X1 : BufTy.Contents (Elt F) arg1.view.ty) (X2 : BufTy.Contents (Elt F) arg2.view.ty) (X8 : BufTy.Contents (Elt F) arg8.view.ty) (k : Fin k0_t3_loop.trips)
theorem trip3_rc : (trip_k0_t3 (F := F) 𝒱 c bd i arg1 harg1 arg2 harg2 arg3 harg3 arg4 harg4 arg5 harg5 arg6 harg6 arg7 harg7 arg8 harg8 arg9 harg9 arg10 harg10 a X1 X2 X8 k).1
    = [⟨Rect.unit (s := S256x8192) (k0_off4 k) S256x256.size (k0_off4_inb k), rowCodes (ldx (arg1.view.read (Elt F) X1) k) (ldd (arg8.view.read (Elt F) X8) k) a⟩] := by
  unfold trip_k0_t3; rfl
theorem trip3_cc : (trip_k0_t3 (F := F) 𝒱 c bd i arg1 harg1 arg2 harg2 arg3 harg3 arg4 harg4 arg5 harg5 arg6 harg6 arg7 harg7 arg8 harg8 arg9 harg9 arg10 harg10 a X1 X2 X8 k).2.1
    = [⟨Rect.unit (s := S8192x256) (k0_off9 k) S256x256.size (k0_off9_inb k), colCodes (ldx (arg1.view.read (Elt F) X1) k) (ldg (arg2.view.read (Elt F) X2) k) a⟩] := by
  unfold trip_k0_t3; rfl
theorem trip3_rsc : (trip_k0_t3 (F := F) 𝒱 c bd i arg1 harg1 arg2 harg2 arg3 harg3 arg4 harg4 arg5 harg5 arg6 harg6 arg7 harg7 arg8 harg8 arg9 harg9 arg10 harg10 a X1 X2 X8 k).2.2.1
    = [⟨Rect.unit (s := S256x256) (k0_off6 k) S8x256.size (k0_off6_inb k), rowScale (ldx (arg1.view.read (Elt F) X1) k) (ldd (arg8.view.read (Elt F) X8) k) a⟩] := by
  unfold trip_k0_t3; rfl
theorem trip3_csc : (trip_k0_t3 (F := F) 𝒱 c bd i arg1 harg1 arg2 harg2 arg3 harg3 arg4 harg4 arg5 harg5 arg6 harg6 arg7 harg7 arg8 harg8 arg9 harg9 arg10 harg10 a X1 X2 X8 k).2.2.2.1
    = [⟨Rect.unit (s := S128x8192) (k0_off8 i k) S8x256.size (k0_off8_inb i k), colScale (ldx (arg1.view.read (Elt F) X1) k) (ldg (arg2.view.read (Elt F) X2) k) a⟩] := by
  unfold trip_k0_t3; rfl
end

/-- Entries by chunk, for a chunk number given by an equation. -/
theorem dgArr_at (g : Vec F S1x8192 .bf16) (y : S32x256x256.Idx) (k : Fin k0_t1_loop.trips) (hk : (y 0).val = k.val) :
    dgArr g y = k0_pay24 (View.ld g (Rect.unit (s := S1x8192) (k0_off1 k) S1x256.size (off1_inb k)))
      (fun a => match a with | 0 => (0 : Fin 1) | 1 => y 1 | 2 => y 2) := by
  obtain ⟨k, hk'⟩ := k
  obtain rfl : (y 0).val = k := hk
  rfl
theorem rcArr_at (x : Vec F S256x8192 .bf16) (D : Vec F S32x256x256 .bf16) (y : S256x8192.Idx) (k : Fin k0_t3_loop.trips) (hk : (y 1).val / 256 = k.val) :
    rcArr x D y = rowCodes (ldx x k) (ldd D k) (acc x) (fun a => match a with | 0 => y 0 | 1 => (⟨(y 1).val % 256, Nat.mod_lt _ (by decide)⟩ : Fin 256)) := by
  obtain rfl : chunkOf (y 1).val (y 1).isLt = k := Fin.ext hk
  rfl
theorem ccArr_at (x : Vec F S256x8192 .bf16) (g : Vec F S1x8192 .bf16) (y : S8192x256.Idx) (k : Fin k0_t3_loop.trips) (hk : (y 0).val / 256 = k.val) :
    ccArr x g y = colCodes (ldx x k) (ldg g k) (acc x) (fun a => match a with | 0 => (⟨(y 0).val % 256, Nat.mod_lt _ (by decide)⟩ : Fin 256) | 1 => y 1) := by
  obtain rfl : chunkOf (y 0).val (y 0).isLt = k := Fin.ext hk
  rfl
theorem cscRow_at (x : Vec F S256x8192 .bf16) (g : Vec F S1x8192 .bf16) (r : Fin 8) (n : Fin 8192) (k : Fin k0_t3_loop.trips) (hk : n.val / 256 = k.val) :
    cscRow x g r n = colScale (ldx x k) (ldg g k) (acc x) (fun a => match a with | 0 => r | 1 => (⟨n.val % 256, Nat.mod_lt _ (by decide)⟩ : Fin 256)) := by
  obtain rfl : chunkOf n.val n.isLt = k := Fin.ext hk
  rfl
theorem rscArr_at (x : Vec F S256x8192 .bf16) (D : Vec F S32x256x256 .bf16) (y : S256x256.Idx) (k : Fin k0_t3_loop.trips) (hk : (y 0).val / 8 = k.val) :
    rscArr x D y = rowScale (ldx x k) (ldd D k) (acc x) (fun a => match a with | 0 => (⟨(y 0).val % 8, Nat.mod_lt _ (by decide)⟩ : Fin 8) | 1 => y 1) := by
  obtain ⟨k, hk'⟩ := k
  obtain rfl : (y 0).val / 8 = k := hk
  rfl

section
variable {sig' : RefSig} {κ : Kind} {sp : Space} {sh : Shape} {e : EltTy}
/-- The pieces of `N` trips, one each: at a place that trip `k` writes, where all trips agree with one array `G`, the memory reads `G`. -/
theorem read_trips (v : View sig' κ sp sh e) (f : v.ty.Contents (Elt F)) (N : ℕ) (P : ℕ → List (View.Piece (Elt F) sh e)) (r : Fin N → Rect sh)
    (w : (k : Fin N) → (r k).shape.Idx → Elt F e) (h0 : P 0 = []) (hs : ∀ k : Fin N, P (k.val + 1) = ⟨r k, w k⟩ :: P k.val)
    (G : sh.Idx → Elt F e) (hG : ∀ k x, w k x = G ((r k).emb x)) (y : sh.Idx) (k : Fin N) (hy : y ∈ (r k).set) :
    v.read (Elt F) (v.writes (Elt F) f (P N)) y = G y := by
  have hmem : ∀ n, n ≤ N → ∀ p ∈ P n, ∃ k : Fin N, p = ⟨r k, w k⟩ := by
    intro n
    induction n with
    | zero => intro _ p hp; rw [h0] at hp; exact absurd hp List.not_mem_nil
    | succ n ih =>
      intro hn p hp
      rw [hs ⟨n, hn⟩] at hp
      rcases List.mem_cons.mp hp with rfl | hp
      · exact ⟨_, rfl⟩
      · exact ih (by omega) p hp
  have hin : ∀ n, n ≤ N → ∀ k : Fin N, k.val < n → (⟨r k, w k⟩ : View.Piece (Elt F) sh e) ∈ P n := by
    intro n
    induction n with
    | zero => intro _ k hk; omega
    | succ n ih =>
      intro hn k hk
      rw [hs ⟨n, hn⟩]
      by_cases h : k.val = n
      · obtain rfl : k = ⟨n, hn⟩ := Fin.ext h
        exact List.mem_cons_self
      · exact List.mem_cons_of_mem _ (ih (by omega) k (by omega))
  refine View.read_writes_apply_of_pieces v f G (P N) ?_ y ⟨_, hin N le_rfl k k.isLt, hy⟩
  intro p hp x
  obtain ⟨k, rfl⟩ := hmem N le_rfl p hp
  exact hG k x
/-- At a place no trip writes the memory reads what it held. -/
theorem read_trips_of_not_mem (v : View sig' κ sp sh e) (f : v.ty.Contents (Elt F)) (N : ℕ) (P : ℕ → List (View.Piece (Elt F) sh e)) (r : Fin N → Rect sh)
    (w : (k : Fin N) → (r k).shape.Idx → Elt F e) (h0 : P 0 = []) (hs : ∀ k : Fin N, P (k.val + 1) = ⟨r k, w k⟩ :: P k.val)
    (y : sh.Idx) (hy : ∀ k, y ∉ (r k).set) :
    v.read (Elt F) (v.writes (Elt F) f (P N)) y = v.read (Elt F) f y := by
  have key : ∀ n, n ≤ N → v.read (Elt F) (v.writes (Elt F) f (P n)) y = v.read (Elt F) f y := by
    intro n
    induction n with
    | zero => intro _; rw [h0]; rfl
    | succ n ih =>
      intro hn
      rw [hs ⟨n, hn⟩, View.read_writes_cons_miss v f _ _ y (hy _)]
      exact ih (by omega)
  exact key N le_rfl
end

section
variable (𝒱 : Variants) (c : Dev nD) (bd : Option 𝒱.V) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)

/-- After the first loop the scratch holds the table of diagonal matrices. -/
theorem read_dg (i : grid0.Coords) (h1 : k0_cond1 i = 1#1) (X2 : BufTy.Contents (Elt F) arg2.view.ty) (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 h1 X2 k0_t1_loop.trips)) = dgArr (arg2.view.read (Elt F) X2) := by
  funext y
  have hy0 : (y 0).val < 32 := (y 0).isLt
  refine read_trips arg8.view f k0_t1_loop.trips (pb_k0_t1 (F := F) 𝒱 c bd i arg1 harg1 arg2 harg2 arg3 harg3 arg4 harg4 arg5 harg5 arg6 harg6 arg7 harg7 arg8 harg8 arg9 harg9 arg10 harg10 h1 X2) _ _ rfl
    (fun k => (pb_k0_t1_succ (F := F) 𝒱 c bd i arg1 harg1 arg2 harg2 arg3 harg3 arg4 harg4 arg5 harg5 arg6 harg6 arg7 harg7 arg8 harg8 arg9 harg9 arg10 harg10 h1 X2 k).trans (by unfold tripL_k0_t1; rw [trip1, List.singleton_append])) _ ?_ y ⟨(y 0).val, by rw [trips1]; exact hy0⟩ ?_
  · intro k z
    have e0 : (((Rect.unit (s := S32x256x256) (k0_off2 k) S1x256x256.size (k0_off2_inb i k h1)).emb z) 0).val = k.val := by
      have hz : (z 0).val < 1 := (z 0).isLt
      show k0_off2 k 0 + 1 * (z 0).val = k.val
      rw [show k0_off2 k 0 = _ from congrFun (off2_eq k) 0]; show k.val + 1 * (z 0).val = _; omega
    refine Eq.trans ?_ (dgArr_at _ _ k e0).symm
    congr 1
    funext a
    match a with
    | 0 => exact Fin.ext (by have hz : (z 0).val < 1 := (z 0).isLt; show (z 0).val = 0; omega)
    | 1 => exact Fin.ext (by show (z 1).val = k0_off2 k 1 + 1 * (z 1).val; rw [show k0_off2 k 1 = _ from congrFun (off2_eq k) 1]; show _ = 0 + 1 * (z 1).val; omega)
    | 2 => exact Fin.ext (by show (z 2).val = k0_off2 k 2 + 1 * (z 2).val; rw [show k0_off2 k 2 = _ from congrFun (off2_eq k) 2]; show _ = 0 + 1 * (z 2).val; omega)
  · rw [Rect.mem_set_unit]
    intro b
    rw [off2_eq]
    match b with
    | 0 => exact ⟨le_rfl, Nat.lt_succ_self _⟩
    | 1 => exact ⟨Nat.zero_le _, by show (y 1).val < 0 + 256; have h : (y 1).val < 256 := (y 1).isLt; omega⟩
    | 2 => exact ⟨Nat.zero_le _, by show (y 2).val < 0 + 256; have h : (y 2).val < 256 := (y 2).isLt; omega⟩

/-- After the last loop the block holds the table of column scales written out. -/
theorem read_cs (i : grid0.Coords) (h2 : k0_cond2 i = 1#1) (X10 : BufTy.Contents (Elt F) arg10.view.ty) (f : BufTy.Contents (Elt F) arg6.view.ty) :
    arg6.view.read (Elt F) (arg6.view.writes (Elt F) f (pb_k0_t4 (F := F) 𝒱 c bd i arg1 harg1 arg2 harg2 arg3 harg3 arg4 harg4 arg5 harg5 arg6 harg6 arg7 harg7 arg8 harg8 arg9 harg9 arg10 harg10 h2 X10 k0_t4_loop.trips)) = csArr (arg10.view.read (Elt F) X10) := by
  funext y
  have hy0 : (y 0).val < 8192 := (y 0).isLt
  have hy1 : (y 1).val < 128 := (y 1).isLt
  refine read_trips arg6.view f k0_t4_loop.trips (pb_k0_t4 (F := F) 𝒱 c bd i arg1 harg1 arg2 harg2 arg3 harg3 arg4 harg4 arg5 harg5 arg6 harg6 arg7 harg7 arg8 harg8 arg9 harg9 arg10 harg10 h2 X10) _ _ rfl
    (fun k => (pb_k0_t4_succ (F := F) 𝒱 c bd i arg1 harg1 arg2 harg2 arg3 harg3 arg4 harg4 arg5 harg5 arg6 harg6 arg7 harg7 arg8 harg8 arg9 harg9 arg10 harg10 h2 X10 k).trans (by unfold tripL_k0_t4; rw [trip4, List.singleton_append])) _ ?_ y ⟨(y 0).val / 128, by rw [trips4]; omega⟩ ?_
  · intro k z
    have hz0 : (z 0).val < 128 := (z 0).isLt
    have hz1 : (z 1).val < 128 := (z 1).isLt
    unfold k0_pay1 csArr
    dsimp only
    refine (transpose_apply [1, 0] _ _ z (show S128x128.Idx from fun a => match a with | 0 => z 1 | 1 => z 0) (fun b => match b with | 0 => rfl | 1 => rfl)).trans ?_
    unfold View.ld
    congr 1
    funext a
    match a with
    | 0 => exact Fin.ext (by show k0_off10 k 0 + 1 * (z 1).val = k0_off11 k 1 + 1 * (z 1).val; rw [show k0_off10 k 0 = _ from congrFun (off10_eq k) 0, show k0_off11 k 1 = _ from congrFun (off11_eq k) 1]; rfl)
    | 1 => exact Fin.ext (by show k0_off10 k 1 + 1 * (z 0).val = k0_off11 k 0 + 1 * (z 0).val; rw [show k0_off10 k 1 = _ from congrFun (off10_eq k) 1, show k0_off11 k 0 = _ from congrFun (off11_eq k) 0]; rfl)
  · rw [Rect.mem_set_unit]
    intro b
    rw [off11_eq]
    match b with
    | 0 => exact ⟨by show 128 * ((y 0).val / 128) ≤ (y 0).val; omega, by show (y 0).val < 128 * ((y 0).val / 128) + 128; omega⟩
    | 1 => exact ⟨Nat.zero_le _, by show (y 1).val < 0 + 128; omega⟩

variable (i : grid0.Coords) (a : FVec F S256x128 .f32) (X1 : BufTy.Contents (Elt F) arg1.view.ty) (X2 : BufTy.Contents (Elt F) arg2.view.ty) (X8 : BufTy.Contents (Elt F) arg8.view.ty)

/-- After the chunk loop: the row codes. -/
theorem read_rc (f : BufTy.Contents (Elt F) arg3.view.ty) (ha : a = acc (arg1.view.read (Elt F) X1)) :
    arg3.view.read (Elt F) (arg3.view.writes (Elt F) f (pb_k0_t3 (F := F) 𝒱 c bd i arg1 harg1 arg2 harg2 arg3 harg3 arg4 harg4 arg5 harg5 arg6 harg6 arg7 harg7 arg8 harg8 arg9 harg9 arg10 harg10 a X1 X2 X8 k0_t3_loop.trips).1) = rcArr (arg1.view.read (Elt F) X1) (arg8.view.read (Elt F) X8) := by
  subst ha
  funext y
  have hy0 : (y 0).val < 256 := (y 0).isLt
  have hy1 : (y 1).val < 8192 := (y 1).isLt
  refine read_trips arg3.view f k0_t3_loop.trips (fun n => (pb_k0_t3 (F := F) 𝒱 c bd i arg1 harg1 arg2 harg2 arg3 harg3 arg4 harg4 arg5 harg5 arg6 harg6 arg7 harg7 arg8 harg8 arg9 harg9 arg10 harg10 (acc (arg1.view.read (Elt F) X1)) X1 X2 X8 n).1) _ _ rfl
    (fun k => (congrArg (·.1) (pb_k0_t3_succ (F := F) 𝒱 c bd i arg1 harg1 arg2 harg2 arg3 harg3 arg4 harg4 arg5 harg5 arg6 harg6 arg7 harg7 arg8 harg8 arg9 harg9 arg10 harg10 _ X1 X2 X8 k)).trans (by dsimp only; rw [trip3_rc]; rfl)) _ ?_ y (chunkOf (y 1).val hy1) ?_
  · intro k z
    have hz1 : (z 1).val < 256 := (z 1).isLt
    have e1 : (((Rect.unit (s := S256x8192) (k0_off4 k) S256x256.size (k0_off4_inb k)).emb z) 1).val = 256 * k.val + (z 1).val := by
      show k0_off4 k 1 + 1 * (z 1).val = _
      rw [show k0_off4 k 1 = _ from congrFun (off4_eq k) 1]; show 256 * k.val + 1 * (z 1).val = _; omega
    refine Eq.trans ?_ (rcArr_at _ _ _ k (by show _ / 256 = _; rw [e1]; omega)).symm
    congr 1
    funext b
    match b with
    | 0 => exact Fin.ext (by show (z 0).val = k0_off4 k 0 + 1 * (z 0).val; rw [show k0_off4 k 0 = _ from congrFun (off4_eq k) 0]; show _ = 0 + 1 * (z 0).val; omega)
    | 1 => exact Fin.ext (by show (z 1).val = _ % 256; rw [e1]; omega)
  · rw [Rect.mem_set_unit]
    intro b
    rw [off4_eq]
    match b with
    | 0 => exact ⟨Nat.zero_le _, by show (y 0).val < 0 + 256; omega⟩
    | 1 => exact ⟨by show 256 * ((y 1).val / 256) ≤ (y 1).val; omega, by show (y 1).val < 256 * ((y 1).val / 256) + 256; omega⟩

/-- After the chunk loop: the column codes. -/
theorem read_cc (f : BufTy.Contents (Elt F) arg5.view.ty) (ha : a = acc (arg1.view.read (Elt F) X1)) :
    arg5.view.read (Elt F) (arg5.view.writes (Elt F) f (pb_k0_t3 (F := F) 𝒱 c bd i arg1 harg1 arg2 harg2 arg3 harg3 arg4 harg4 arg5 harg5 arg6 harg6 arg7 harg7 arg8 harg8 arg9 harg9 arg10 harg10 a X1 X2 X8 k0_t3_loop.trips).2.1) = ccArr (arg1.view.read (Elt F) X1) (arg2.view.read (Elt F) X2) := by
  subst ha
  funext y
  have hy0 : (y 0).val < 8192 := (y 0).isLt
  have hy1 : (y 1).val < 256 := (y 1).isLt
  refine read_trips arg5.view f k0_t3_loop.trips (fun n => (pb_k0_t3 (F := F) 𝒱 c bd i arg1 harg1 arg2 harg2 arg3 harg3 arg4 harg4 arg5 harg5 arg6 harg6 arg7 harg7 arg8 harg8 arg9 harg9 arg10 harg10 (acc (arg1.view.read (Elt F) X1)) X1 X2 X8 n).2.1) _ _ rfl
    (fun k => (congrArg (·.2.1) (pb_k0_t3_succ (F := F) 𝒱 c bd i arg1 harg1 arg2 harg2 arg3 harg3 arg4 harg4 arg5 harg5 arg6 harg6 arg7 harg7 arg8 harg8 arg9 harg9 arg10 harg10 _ X1 X2 X8 k)).trans (by dsimp only; rw [trip3_cc]; rfl)) _ ?_ y (chunkOf (y 0).val hy0) ?_
  · intro k z
    have hz0 : (z 0).val < 256 := (z 0).isLt
    have e0 : (((Rect.unit (s := S8192x256) (k0_off9 k) S256x256.size (k0_off9_inb k)).emb z) 0).val = 256 * k.val + (z 0).val := by
      show k0_off9 k 0 + 1 * (z 0).val = _
      rw [show k0_off9 k 0 = _ from congrFun (off9_eq k) 0]; show 256 * k.val + 1 * (z 0).val = _; omega
    refine Eq.trans ?_ (ccArr_at _ _ _ k (by show _ / 256 = _; rw [e0]; omega)).symm
    congr 1
    funext b
    match b with
    | 0 => exact Fin.ext (by show (z 0).val = _ % 256; rw [e0]; omega)
    | 1 => exact Fin.ext (by show (z 1).val = k0_off9 k 1 + 1 * (z 1).val; rw [show k0_off9 k 1 = _ from congrFun (off9_eq k) 1]; show _ = 0 + 1 * (z 1).val; omega)
  · rw [Rect.mem_set_unit]
    intro b
    rw [off9_eq]
    match b with
    | 0 => exact ⟨by show 256 * ((y 0).val / 256) ≤ (y 0).val; omega, by show (y 0).val < 256 * ((y 0).val / 256) + 256; omega⟩
    | 1 => exact ⟨Nat.zero_le _, by show (y 1).val < 0 + 256; omega⟩

/-- After the chunk loop: the row scales, group by group. -/
theorem read_rsc (f : BufTy.Contents (Elt F) arg9.view.ty) (ha : a = acc (arg1.view.read (Elt F) X1)) :
    arg9.view.read (Elt F) (arg9.view.writes (Elt F) f (pb_k0_t3 (F := F) 𝒱 c bd i arg1 harg1 arg2 harg2 arg3 harg3 arg4 harg4 arg5 harg5 arg6 harg6 arg7 harg7 arg8 harg8 arg9 harg9 arg10 harg10 a X1 X2 X8 k0_t3_loop.trips).2.2.1) = rscArr (arg1.view.read (Elt F) X1) (arg8.view.read (Elt F) X8) := by
  subst ha
  funext y
  have hy0 : (y 0).val < 256 := (y 0).isLt
  have hy1 : (y 1).val < 256 := (y 1).isLt
  refine read_trips arg9.view f k0_t3_loop.trips (fun n => (pb_k0_t3 (F := F) 𝒱 c bd i arg1 harg1 arg2 harg2 arg3 harg3 arg4 harg4 arg5 harg5 arg6 harg6 arg7 harg7 arg8 harg8 arg9 harg9 arg10 harg10 (acc (arg1.view.read (Elt F) X1)) X1 X2 X8 n).2.2.1) _ _ rfl
    (fun k => (congrArg (·.2.2.1) (pb_k0_t3_succ (F := F) 𝒱 c bd i arg1 harg1 arg2 harg2 arg3 harg3 arg4 harg4 arg5 harg5 arg6 harg6 arg7 harg7 arg8 harg8 arg9 harg9 arg10 harg10 _ X1 X2 X8 k)).trans (by dsimp only; rw [trip3_rsc]; rfl)) _ ?_ y ⟨(y 0).val / 8, by rw [trips3]; omega⟩ ?_
  · intro k z
    have hz0 : (z 0).val < 8 := (z 0).isLt
    have e0 : (((Rect.unit (s := S256x256) (k0_off6 k) S8x256.size (k0_off6_inb k)).emb z) 0).val = 8 * k.val + (z 0).val := by
      show k0_off6 k 0 + 1 * (z 0).val = _
      rw [show k0_off6 k 0 = _ from congrFun (off6_eq k) 0]; show 8 * k.val + 1 * (z 0).val = _; omega
    refine Eq.trans ?_ (rscArr_at _ _ _ k (by show _ / 8 = _; rw [e0]; omega)).symm
    congr 1
    funext b
    match b with
    | 0 => exact Fin.ext (by show (z 0).val = _ % 8; rw [e0]; omega)
    | 1 => exact Fin.ext (by show (z 1).val = k0_off6 k 1 + 1 * (z 1).val; rw [show k0_off6 k 1 = _ from congrFun (off6_eq k) 1]; show _ = 0 + 1 * (z 1).val; omega)
  · rw [Rect.mem_set_unit]
    intro b
    rw [off6_eq]
    match b with
    | 0 => exact ⟨by show 8 * ((y 0).val / 8) ≤ (y 0).val; omega, by show (y 0).val < 8 * ((y 0).val / 8) + 8; omega⟩
    | 1 => exact ⟨Nat.zero_le _, by show (y 1).val < 0 + 256; omega⟩

/-- The carried partial sums after all trips. -/
theorem st_acc (i : grid0.Coords) (X1 : BufTy.Contents (Elt F) arg1.view.ty) :
    st_k0_t2 (F := F) 𝒱 c bd i arg1 harg1 arg2 harg2 arg3 harg3 arg4 harg4 arg5 harg5 arg6 harg6 arg7 harg7 arg8 harg8 arg9 harg9 arg10 harg10 X1 k0_pay25 k0_t2_loop.trips = acc (arg1.view.read (Elt F) X1) := by
  have key : ∀ n, n ≤ k0_t2_loop.trips → st_k0_t2 (F := F) 𝒱 c bd i arg1 harg1 arg2 harg2 arg3 harg3 arg4 harg4 arg5 harg5 arg6 harg6 arg7 harg7 arg8 harg8 arg9 harg9 arg10 harg10 X1 k0_pay25 n = accN (arg1.view.read (Elt F) X1) n := by
    intro n
    induction n with
    | zero => intro _; rfl
    | succ n ih =>
      intro hn
      have h := st_k0_t2_succ (F := F) 𝒱 c bd i arg1 harg1 arg2 harg2 arg3 harg3 arg4 harg4 arg5 harg5 arg6 harg6 arg7 harg7 arg8 harg8 arg9 harg9 arg10 harg10 X1 k0_pay25 ⟨n, hn⟩
      refine h.trans ?_
      rw [ih (by omega), accN.eq_2, dif_pos (show n < k0_t2_loop.trips from hn)]
      unfold tripR_k0_t2 trip_k0_t2
      rfl
  exact key _ le_rfl
end

section
variable (𝒱 : Variants) (c : Dev nD) (bd : Option 𝒱.V) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole) (t : Fin grid0.N) (a : FVec F S256x128 .f32) (X1 : BufTy.Contents (Elt F) arg1.view.ty) (X2 : BufTy.Contents (Elt F) arg2.view.ty) (X8 : BufTy.Contents (Elt F) arg8.view.ty)
/-- After the chunk loop: the table of column scales. -/
theorem read_csc (f : BufTy.Contents (Elt F) arg10.view.ty) (ha : a = acc (arg1.view.read (Elt F) X1)) :
    arg10.view.read (Elt F) (arg10.view.writes (Elt F) f (pb_k0_t3 (F := F) 𝒱 c bd (grid0.coords t) arg1 harg1 arg2 harg2 arg3 harg3 arg4 harg4 arg5 harg5 arg6 harg6 arg7 harg7 arg8 harg8 arg9 harg9 arg10 harg10 a X1 X2 X8 k0_t3_loop.trips).2.2.2)
      = cscArr (arg1.view.read (Elt F) X1) (arg2.view.read (Elt F) X2) t.val (arg10.view.read (Elt F) f) := by
  subst ha
  funext y
  have hy0 : (y 0).val < 128 := (y 0).isLt
  have hy1 : (y 1).val < 8192 := (y 1).isLt
  have hs : ∀ k : Fin k0_t3_loop.trips, (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 (k.val + 1)).2.2.2
      = ⟨Rect.unit (s := S128x8192) (k0_off8 (grid0.coords t) k) S8x256.size (k0_off8_inb (grid0.coords t) k), colScale (ldx (arg1.view.read (Elt F) X1) k) (ldg (arg2.view.read (Elt F) X2) k) (acc (arg1.view.read (Elt F) X1))⟩
        :: (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 k.val).2.2.2 :=
    fun k => (congrArg (·.2.2.2) (pb_k0_t3_succ (F := F) 𝒱 c bd (grid0.coords t) arg1 harg1 arg2 harg2 arg3 harg3 arg4 harg4 arg5 harg5 arg6 harg6 arg7 harg7 arg8 harg8 arg9 harg9 arg10 harg10 _ X1 X2 X8 k)).trans (by dsimp only; rw [trip3_csc]; rfl)
  unfold cscArr
  split
  · rename_i h
    refine read_trips arg10.view f k0_t3_loop.trips (fun n => (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 n).2.2.2) _ _ rfl hs
      (fun y => cscRow (arg1.view.read (Elt F) X1) (arg2.view.read (Elt F) X2) ⟨(y 0).val % 8, Nat.mod_lt _ (by decide)⟩ (y 1)) ?_ y (chunkOf (y 1).val hy1) ?_
    · intro k z
      have hz0 : (z 0).val < 8 := (z 0).isLt
      have hz1 : (z 1).val < 256 := (z 1).isLt
      have e0 : (((Rect.unit (s := S128x8192) (k0_off8 (grid0.coords t) k) S8x256.size (k0_off8_inb (grid0.coords t) k)).emb z) 0).val = 8 * (t.val % 16) + (z 0).val := by
        show k0_off8 (grid0.coords t) k 0 + 1 * (z 0).val = _
        rw [show k0_off8 (grid0.coords t) k 0 = _ from congrFun (off8_eq t k) 0]; show 8 * (t.val % 16) + 1 * (z 0).val = _; omega
      have e1 : (((Rect.unit (s := S128x8192) (k0_off8 (grid0.coords t) k) S8x256.size (k0_off8_inb (grid0.coords t) k)).emb z) 1).val = 256 * k.val + (z 1).val := by
        show k0_off8 (grid0.coords t) k 1 + 1 * (z 1).val = _
        rw [show k0_off8 (grid0.coords t) k 1 = _ from congrFun (off8_eq t k) 1]; show 256 * k.val + 1 * (z 1).val = _; omega
      refine Eq.trans ?_ (cscRow_at _ _ _ _ k (by show _ / 256 = _; rw [e1]; omega)).symm
      congr 1
      funext b
      match b with
      | 0 => exact Fin.ext (by show (z 0).val = _ % 8; rw [e0]; omega)
      | 1 => exact Fin.ext (by show (z 1).val = _ % 256; rw [e1]; omega)
    · rw [Rect.mem_set_unit]
      intro b
      rw [off8_eq]
      match b with
      | 0 => exact ⟨by show 8 * (t.val % 16) ≤ (y 0).val; omega, by show (y 0).val < 8 * (t.val % 16) + 8; omega⟩
      | 1 => exact ⟨by show 256 * ((y 1).val / 256) ≤ (y 1).val; omega, by show (y 1).val < 256 * ((y 1).val / 256) + 256; omega⟩
  · rename_i h
    refine read_trips_of_not_mem arg10.view f k0_t3_loop.trips (fun n => (pb_k0_t3 (F := F) 𝒱 c bd (grid0.coords t) arg1 harg1 arg2 harg2 arg3 harg3 arg4 harg4 arg5 harg5 arg6 harg6 arg7 harg7 arg8 harg8 arg9 harg9 arg10 harg10 (acc (arg1.view.read (Elt F) X1)) X1 X2 X8 n).2.2.2) _ _ rfl hs y ?_
    intro k hk
    rw [Rect.mem_set_unit] at hk
    have h0 := hk 0
    rw [off8_eq] at h0
    have h0' : 8 * (t.val % 16) ≤ (y 0).val ∧ (y 0).val < 8 * (t.val % 16) + 8 := h0
    omega
end

end Cert.Kernel.Hand
end
-- ==== Proof.WordRun.lean ====
module
public import proofs.«01_k».proof.Proof.WordTrips
public import proofs.«01_k».proof.Proof.Gen.Kernel.Frame
public import proofs.«01_k».proof.Proof.Gen.Kernel.Skeleton
public import Idealize.ShloMosaic.Lib.Pipeline.Frame
public import Idealize.ShloMosaic.Lib.Pipeline.Value
public import Idealize.ShloMosaic.Lib.VecWindow
public import Idealize.ShloMosaic.Lib.Tactic
@[expose] public section
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
/-! # The kernel body, run once: what every operand holds afterwards -/

local notation "𝕄" => MT nD τ sig Unit (Elt F) ℕ (UR sig nD τ) ℕ

set_option maxHeartbeats 2000000 in
/-- A point that neither fills the table nor writes the column scales out. -/
theorem run_mid (c : Dev nD) (t : Fin grid0.N) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)
    (hc1 : ¬ k0_cond1 (grid0.coords t) = 1#1) (hc2 : ¬ k0_cond2 (grid0.coords t) = 1#1)
    (x : Vec F S256x8192 .bf16) (g : Vec F S1x8192 .bf16) (D : Vec F S32x256x256 .bf16) (C : Vec F S128x8192 .f32) (Z : Vec F S8192x128 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d) ∗ (∃ d, owns (c : Thread nD τ) arg5 fullShare d) ∗ owns (c : Thread nD τ) arg6 fullShare Z ∗ (∃ d, owns (c : Thread nD τ) arg7 fullShare d) ∗ owns (c : Thread nD τ) arg8 fullShare D ∗ (∃ d, owns (c : Thread nD τ) arg9 fullShare d) ∗ owns (c : Thread nD τ) arg10 fullShare C
        ∗ (iprop(owns (c : Thread nD τ) arg1 fullShare x ∗ owns (c : Thread nD τ) arg2 fullShare g ∗ owns (c : Thread nD τ) arg3 fullShare (rcArr x D) ∗ owns (c : Thread nD τ) arg4 fullShare (k0_pay32 (rscArr x D)) ∗ owns (c : Thread nD τ) arg5 fullShare (ccArr x g) ∗ owns (c : Thread nD τ) arg6 fullShare Z ∗ owns (c : Thread nD τ) arg7 fullShare (k0_pay29 (acc x)) ∗ owns (c : Thread nD τ) arg8 fullShare D ∗ (∃ d, owns (c : Thread nD τ) arg9 fullShare d) ∗ owns (c : Thread nD τ) arg10 fullShare (cscArr x g t.val C)) -∗ K ⟨⟩))
      ⊢ wp frame (wpE (defs₀ (F := F)) Variants.none c none) Set.univ
          (cc0_rmsnorm_fp8_cast_transpose (grid0.coords t) arg1 harg1 arg2 harg2 arg3 harg3 arg4 harg4 arg5 harg5 arg6 harg6 arg7 harg7 arg8 harg8 arg9 harg9 arg10 harg10) K := by
  simp only [cc0_rmsnorm_fp8_cast_transpose_eq_skeleton]; unfold cc0_rmsnorm_fp8_cast_transpose_skel
  unfold owns
  iintro ⟨⟨%f1, %e1, H1⟩, ⟨%f2, %e2, H2⟩, ⟨%d3, %f3, -, H3⟩, ⟨%d4, %f4, -, H4⟩, ⟨%d5, %f5, -, H5⟩, ⟨%f6, %e6, H6⟩, ⟨%d7, %f7, -, H7⟩, ⟨%f8, %e8, H8⟩, ⟨%d9, %f9, -, H9⟩, ⟨%f10, %e10, H10⟩, Hk⟩
  subst e1 e2 e6 e8 e10
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (read_rc Variants.none c none arg1 harg1 arg2 harg2 arg3 harg3 arg4 harg4 arg5 harg5 arg6 harg6 arg7 harg7 arg8 harg8 arg9 harg9 arg10 harg10 (grid0.coords t) _ f1 f2 _ f3 (st_acc Variants.none c none arg1 harg1 arg2 harg2 arg3 harg3 arg4 harg4 arg5 harg5 arg6 harg6 arg7 harg7 arg8 harg8 arg9 harg9 arg10 harg10 (grid0.coords t) f1)).trans ?_; rfl
  isplitl [H4]
  · iexists _; isplitr; swap; · iexact H4
    ipureintro; sl_unfold_words; refine (View.read_writes_full _ _ _ _ _).trans (congrArg k0_pay32 ((View.readAt_full _ _ _).trans ((read_rsc Variants.none c none arg1 harg1 arg2 harg2 arg3 harg3 arg4 harg4 arg5 harg5 arg6 harg6 arg7 harg7 arg8 harg8 arg9 harg9 arg10 harg10 (grid0.coords t) _ f1 f2 _ f9 (st_acc Variants.none c none arg1 harg1 arg2 harg2 arg3 harg3 arg4 harg4 arg5 harg5 arg6 harg6 arg7 harg7 arg8 harg8 arg9 harg9 arg10 harg10 (grid0.coords t) f1)))))
  isplitl [H5]
  · iexists _; isplitr; swap; · iexact H5
    ipureintro; exact read_cc Variants.none c none arg1 harg1 arg2 harg2 arg3 harg3 arg4 harg4 arg5 harg5 arg6 harg6 arg7 harg7 arg8 harg8 arg9 harg9 arg10 harg10 (grid0.coords t) _ f1 f2 _ f5 (st_acc Variants.none c none arg1 harg1 arg2 harg2 arg3 harg3 arg4 harg4 arg5 harg5 arg6 harg6 arg7 harg7 arg8 harg8 arg9 harg9 arg10 harg10 (grid0.coords t) f1)
  isplitl [H6]
  · iexists _; isplitr; swap; · iexact H6
    ipureintro; rfl
  isplitl [H7]
  · iexists _; isplitr; swap; · iexact H7
    ipureintro; sl_unfold_words; exact (View.read_writes_full _ _ _ _ _).trans (congrArg k0_pay29 (st_acc Variants.none c none arg1 harg1 arg2 harg2 arg3 harg3 arg4 harg4 arg5 harg5 arg6 harg6 arg7 harg7 arg8 harg8 arg9 harg9 arg10 harg10 (grid0.coords t) f1))
  isplitl [H8]
  · iexists _; isplitr; swap; · iexact H8
    ipureintro; rfl
  isplitl [H9]
  · iexists _, _; isplitr; swap; · iexact H9
    ipureintro; rfl
  iexists _; isplitr; swap; · iexact H10
  ipureintro; exact read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)

set_option maxHeartbeats 2000000 in
/-- The first point: it fills the table of diagonal matrices. -/
theorem run_first (c : Dev nD) (t : Fin grid0.N) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)
    (hc1 : k0_cond1 (grid0.coords t) = 1#1) (hc2 : ¬ k0_cond2 (grid0.coords t) = 1#1)
    (x : Vec F S256x8192 .bf16) (g : Vec F S1x8192 .bf16) (D : Vec F S32x256x256 .bf16) (C : Vec F S128x8192 .f32) (Z : Vec F S8192x128 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d) ∗ (∃ d, owns (c : Thread nD τ) arg5 fullShare d) ∗ owns (c : Thread nD τ) arg6 fullShare Z ∗ (∃ d, owns (c : Thread nD τ) arg7 fullShare d) ∗ owns (c : Thread nD τ) arg8 fullShare D ∗ (∃ d, owns (c : Thread nD τ) arg9 fullShare d) ∗ owns (c : Thread nD τ) arg10 fullShare C
        ∗ (iprop(owns (c : Thread nD τ) arg1 fullShare x ∗ owns (c : Thread nD τ) arg2 fullShare g ∗ owns (c : Thread nD τ) arg3 fullShare (rcArr x (dgArr g)) ∗ owns (c : Thread nD τ) arg4 fullShare (k0_pay32 (rscArr x (dgArr g))) ∗ owns (c : Thread nD τ) arg5 fullShare (ccArr x g) ∗ owns (c : Thread nD τ) arg6 fullShare Z ∗ owns (c : Thread nD τ) arg7 fullShare (k0_pay29 (acc x)) ∗ owns (c : Thread nD τ) arg8 fullShare (dgArr g) ∗ (∃ d, owns (c : Thread nD τ) arg9 fullShare d) ∗ owns (c : Thread nD τ) arg10 fullShare (cscArr x g t.val C)) -∗ K ⟨⟩))
      ⊢ wp frame (wpE (defs₀ (F := F)) Variants.none c none) Set.univ
          (cc0_rmsnorm_fp8_cast_transpose (grid0.coords t) arg1 harg1 arg2 harg2 arg3 harg3 arg4 harg4 arg5 harg5 arg6 harg6 arg7 harg7 arg8 harg8 arg9 harg9 arg10 harg10) K := by
  simp only [cc0_rmsnorm_fp8_cast_transpose_eq_skeleton]; unfold cc0_rmsnorm_fp8_cast_transpose_skel
  unfold owns
  iintro ⟨⟨%f1, %e1, H1⟩, ⟨%f2, %e2, H2⟩, ⟨%d3, %f3, -, H3⟩, ⟨%d4, %f4, -, H4⟩, ⟨%d5, %f5, -, H5⟩, ⟨%f6, %e6, H6⟩, ⟨%d7, %f7, -, H7⟩, ⟨%f8, %e8, H8⟩, ⟨%d9, %f9, -, H9⟩, ⟨%f10, %e10, H10⟩, Hk⟩
  subst e1 e2 e6 e8 e10
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (read_rc Variants.none c none arg1 harg1 arg2 harg2 arg3 harg3 arg4 harg4 arg5 harg5 arg6 harg6 arg7 harg7 arg8 harg8 arg9 harg9 arg10 harg10 (grid0.coords t) _ f1 f2 _ f3 (st_acc Variants.none c none arg1 harg1 arg2 harg2 arg3 harg3 arg4 harg4 arg5 harg5 arg6 harg6 arg7 harg7 arg8 harg8 arg9 harg9 arg10 harg10 (grid0.coords t) f1)).trans ?_; exact congrArg _ (read_dg Variants.none c none arg1 harg1 arg2 harg2 arg3 harg3 arg4 harg4 arg5 harg5 arg6 harg6 arg7 harg7 arg8 harg8 arg9 harg9 arg10 harg10 (grid0.coords t) hc1 f2 f8)
  isplitl [H4]
  · iexists _; isplitr; swap; · iexact H4
    ipureintro; sl_unfold_words; refine (View.read_writes_full _ _ _ _ _).trans (congrArg k0_pay32 ((View.readAt_full _ _ _).trans ((read_rsc Variants.none c none arg1 harg1 arg2 harg2 arg3 harg3 arg4 harg4 arg5 harg5 arg6 harg6 arg7 harg7 arg8 harg8 arg9 harg9 arg10 harg10 (grid0.coords t) _ f1 f2 _ f9 (st_acc Variants.none c none arg1 harg1 arg2 harg2 arg3 harg3 arg4 harg4 arg5 harg5 arg6 harg6 arg7 harg7 arg8 harg8 arg9 harg9 arg10 harg10 (grid0.coords t) f1)).trans (congrArg _ (read_dg Variants.none c none arg1 harg1 arg2 harg2 arg3 harg3 arg4 harg4 arg5 harg5 arg6 harg6 arg7 harg7 arg8 harg8 arg9 harg9 arg10 harg10 (grid0.coords t) hc1 f2 f8)))))
  isplitl [H5]
  · iexists _; isplitr; swap; · iexact H5
    ipureintro; exact read_cc Variants.none c none arg1 harg1 arg2 harg2 arg3 harg3 arg4 harg4 arg5 harg5 arg6 harg6 arg7 harg7 arg8 harg8 arg9 harg9 arg10 harg10 (grid0.coords t) _ f1 f2 _ f5 (st_acc Variants.none c none arg1 harg1 arg2 harg2 arg3 harg3 arg4 harg4 arg5 harg5 arg6 harg6 arg7 harg7 arg8 harg8 arg9 harg9 arg10 harg10 (grid0.coords t) f1)
  isplitl [H6]
  · iexists _; isplitr; swap; · iexact H6
    ipureintro; rfl
  isplitl [H7]
  · iexists _; isplitr; swap; · iexact H7
    ipureintro; sl_unfold_words; exact (View.read_writes_full _ _ _ _ _).trans (congrArg k0_pay29 (st_acc Variants.none c none arg1 harg1 arg2 harg2 arg3 harg3 arg4 harg4 arg5 harg5 arg6 harg6 arg7 harg7 arg8 harg8 arg9 harg9 arg10 harg10 (grid0.coords t) f1))
  isplitl [H8]
  · iexists _; isplitr; swap; · iexact H8
    ipureintro; exact read_dg Variants.none c none arg1 harg1 arg2 harg2 arg3 harg3 arg4 harg4 arg5 harg5 arg6 harg6 arg7 harg7 arg8 harg8 arg9 harg9 arg10 harg10 (grid0.coords t) hc1 f2 f8
  isplitl [H9]
  · iexists _, _; isplitr; swap; · iexact H9
    ipureintro; rfl
  iexists _; isplitr; swap; · iexact H10
  ipureintro; exact read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)

set_option maxHeartbeats 2000000 in
/-- A point that writes the column scales out. -/
theorem run_out (c : Dev nD) (t : Fin grid0.N) (arg1 : Memref sig .tc .vmem S256x8192 .bf16) (harg1 : arg1.IsWhole) (arg2 : Memref sig .tc .vmem S1x8192 .bf16) (harg2 : arg2.IsWhole) (arg3 : Memref sig .tc .vmem S256x8192 .fp8e4m3) (harg3 : arg3.IsWhole) (arg4 : Memref sig .tc .vmem S256x256 .f32) (harg4 : arg4.IsWhole) (arg5 : Memref sig .tc .vmem S8192x256 .fp8e4m3) (harg5 : arg5.IsWhole) (arg6 : Memref sig .tc .vmem S8192x128 .f32) (harg6 : arg6.IsWhole) (arg7 : Memref sig .tc .vmem S1x1x256 .f32) (harg7 : arg7.IsWhole) (arg8 : Memref sig .tc .vmem S32x256x256 .bf16) (harg8 : arg8.IsWhole) (arg9 : Memref sig .tc .vmem S256x256 .f32) (harg9 : arg9.IsWhole) (arg10 : Memref sig .tc .vmem S128x8192 .f32) (harg10 : arg10.IsWhole)
    (hc1 : ¬ k0_cond1 (grid0.coords t) = 1#1) (hc2 : k0_cond2 (grid0.coords t) = 1#1)
    (x : Vec F S256x8192 .bf16) (g : Vec F S1x8192 .bf16) (D : Vec F S32x256x256 .bf16) (C : Vec F S128x8192 .f32) (Z : Vec F S8192x128 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d) ∗ (∃ d, owns (c : Thread nD τ) arg5 fullShare d) ∗ owns (c : Thread nD τ) arg6 fullShare Z ∗ (∃ d, owns (c : Thread nD τ) arg7 fullShare d) ∗ owns (c : Thread nD τ) arg8 fullShare D ∗ (∃ d, owns (c : Thread nD τ) arg9 fullShare d) ∗ owns (c : Thread nD τ) arg10 fullShare C
        ∗ (iprop(owns (c : Thread nD τ) arg1 fullShare x ∗ owns (c : Thread nD τ) arg2 fullShare g ∗ owns (c : Thread nD τ) arg3 fullShare (rcArr x D) ∗ owns (c : Thread nD τ) arg4 fullShare (k0_pay32 (rscArr x D)) ∗ owns (c : Thread nD τ) arg5 fullShare (ccArr x g) ∗ owns (c : Thread nD τ) arg6 fullShare (csArr (cscArr x g t.val C)) ∗ owns (c : Thread nD τ) arg7 fullShare (k0_pay29 (acc x)) ∗ owns (c : Thread nD τ) arg8 fullShare D ∗ (∃ d, owns (c : Thread nD τ) arg9 fullShare d) ∗ owns (c : Thread nD τ) arg10 fullShare (cscArr x g t.val C)) -∗ K ⟨⟩))
      ⊢ wp frame (wpE (defs₀ (F := F)) Variants.none c none) Set.univ
          (cc0_rmsnorm_fp8_cast_transpose (grid0.coords t) arg1 harg1 arg2 harg2 arg3 harg3 arg4 harg4 arg5 harg5 arg6 harg6 arg7 harg7 arg8 harg8 arg9 harg9 arg10 harg10) K := by
  simp only [cc0_rmsnorm_fp8_cast_transpose_eq_skeleton]; unfold cc0_rmsnorm_fp8_cast_transpose_skel
  unfold owns
  iintro ⟨⟨%f1, %e1, H1⟩, ⟨%f2, %e2, H2⟩, ⟨%d3, %f3, -, H3⟩, ⟨%d4, %f4, -, H4⟩, ⟨%d5, %f5, -, H5⟩, ⟨%f6, %e6, H6⟩, ⟨%d7, %f7, -, H7⟩, ⟨%f8, %e8, H8⟩, ⟨%d9, %f9, -, H9⟩, ⟨%f10, %e10, H10⟩, Hk⟩
  subst e1 e2 e6 e8 e10
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (read_rc Variants.none c none arg1 harg1 arg2 harg2 arg3 harg3 arg4 harg4 arg5 harg5 arg6 harg6 arg7 harg7 arg8 harg8 arg9 harg9 arg10 harg10 (grid0.coords t) _ f1 f2 _ f3 (st_acc Variants.none c none arg1 harg1 arg2 harg2 arg3 harg3 arg4 harg4 arg5 harg5 arg6 harg6 arg7 harg7 arg8 harg8 arg9 harg9 arg10 harg10 (grid0.coords t) f1)).trans ?_; rfl
  isplitl [H4]
  · iexists _; isplitr; swap; · iexact H4
    ipureintro; sl_unfold_words; refine (View.read_writes_full _ _ _ _ _).trans (congrArg k0_pay32 ((View.readAt_full _ _ _).trans ((read_rsc Variants.none c none arg1 harg1 arg2 harg2 arg3 harg3 arg4 harg4 arg5 harg5 arg6 harg6 arg7 harg7 arg8 harg8 arg9 harg9 arg10 harg10 (grid0.coords t) _ f1 f2 _ f9 (st_acc Variants.none c none arg1 harg1 arg2 harg2 arg3 harg3 arg4 harg4 arg5 harg5 arg6 harg6 arg7 harg7 arg8 harg8 arg9 harg9 arg10 harg10 (grid0.coords t) f1)))))
  isplitl [H5]
  · iexists _; isplitr; swap; · iexact H5
    ipureintro; exact read_cc Variants.none c none arg1 harg1 arg2 harg2 arg3 harg3 arg4 harg4 arg5 harg5 arg6 harg6 arg7 harg7 arg8 harg8 arg9 harg9 arg10 harg10 (grid0.coords t) _ f1 f2 _ f5 (st_acc Variants.none c none arg1 harg1 arg2 harg2 arg3 harg3 arg4 harg4 arg5 harg5 arg6 harg6 arg7 harg7 arg8 harg8 arg9 harg9 arg10 harg10 (grid0.coords t) f1)
  isplitl [H6]
  · iexists _; isplitr; swap; · iexact H6
    ipureintro; exact (read_cs Variants.none c none arg1 harg1 arg2 harg2 arg3 harg3 arg4 harg4 arg5 harg5 arg6 harg6 arg7 harg7 arg8 harg8 arg9 harg9 arg10 harg10 (grid0.coords t) hc2 _ f6).trans (congrArg csArr (read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)))
  isplitl [H7]
  · iexists _; isplitr; swap; · iexact H7
    ipureintro; sl_unfold_words; exact (View.read_writes_full _ _ _ _ _).trans (congrArg k0_pay29 (st_acc Variants.none c none arg1 harg1 arg2 harg2 arg3 harg3 arg4 harg4 arg5 harg5 arg6 harg6 arg7 harg7 arg8 harg8 arg9 harg9 arg10 harg10 (grid0.coords t) f1))
  isplitl [H8]
  · iexists _; isplitr; swap; · iexact H8
    ipureintro; rfl
  isplitl [H9]
  · iexists _, _; isplitr; swap; · iexact H9
    ipureintro; rfl
  iexists _; isplitr; swap; · iexact H10
  ipureintro; exact read_csc Variants.none c none arg1 harg1 arg2 harg2 arg3 harg3 arg4 harg4 arg5 harg5 arg6 harg6 arg7 harg7 arg8 harg8 arg9 harg9 arg10 harg10 t _ f1 f2 _ f10 (st_acc Variants.none c none arg1 harg1 arg2 harg2 arg3 harg3 arg4 harg4 arg5 harg5 arg6 harg6 arg7 harg7 arg8 harg8 arg9 harg9 arg10 harg10 (grid0.coords t) f1)

end Cert.Kernel.Hand
end
-- ==== Proof.WordBody.lean ====
module
public import proofs.«01_k».proof.Proof.WordRun
public import proofs.«01_k».proof.Proof.Gen.Kernel.Frame
public import proofs.«01_k».proof.Proof.Gen.Kernel.Skeleton
public import Idealize.ShloMosaic.Lib.Pipeline.Frame
public import Idealize.ShloMosaic.Lib.Pipeline.Value
public import Idealize.ShloMosaic.Lib.VecWindow
public import Idealize.ShloMosaic.Lib.Tactic
@[expose] public section
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
/-! # The proof data: what every buffer holds at every grid point, and the body's obligation at a point -/

local notation "𝕄" => MT nD τ sig Unit (Elt F) ℕ (UR sig nD τ) ℕ

variable (m : (ℓ : Loc nD τ sig) → Buf (Elt F) ℓ) (ρ : Dev nD → PrngReg)

/-- The grid point of a number (the last point's for numbers off the grid). -/
def ptOf (n : ℕ) : Fin cfg0.N := ⟨min n 35, by rw [show cfg0.N = 36 from N_0]; omega⟩
theorem ptOf_val (t : Fin cfg0.N) : ptOf t.val = t :=
  Fin.ext (by have h : t.val < 36 := Nat.lt_of_lt_of_eq t.isLt N_0; show min t.val 35 = t.val; omega)

/-- The input rows and the weights at a point. -/
def xAt (c : Dev nD) (t : Fin cfg0.N) : Vec F S256x8192 .bf16 := iblk m c 0 t
def gAt (c : Dev nD) (t : Fin cfg0.N) : Vec F S1x8192 .bf16 := iblk m c 1 t
/-- The weights are the same at every point. -/
theorem gAt_eq (c : Dev nD) (t : Fin cfg0.N) : gAt m c t = gAt m c (ptOf 0) := rfl
/-- The table of diagonal matrices. -/
def dgAt (c : Dev nD) : Vec F S32x256x256 .bf16 := dgArr (gAt m c (ptOf 0))

/-- The latest of the first `n` points whose number is `r` modulo 16. -/
def latest (n r : ℕ) : ℕ := (n - 1) - (n - 1 + 16 - r) % 16
/-- The table of column scales after the first `n` points. -/
def tblN (c : Dev nD) (n : ℕ) : Vec F S128x8192 .f32 := fun y =>
  cscRow (xAt m c (ptOf (latest n ((y 0).val / 8)))) (gAt m c (ptOf (latest n ((y 0).val / 8)))) ⟨(y 0).val % 8, Nat.mod_lt _ (by decide)⟩ (y 1)
/-- `C` agrees with that table on the rows written so far. -/
def Inv (c : Dev nD) (n : ℕ) (C : Vec F S128x8192 .f32) : Prop := ∀ y, (y 0).val / 8 < n → C y = tblN m c n y

theorem inv_zero (c : Dev nD) (C : Vec F S128x8192 .f32) : Inv m c 0 C := fun y h => absurd h (Nat.not_lt_zero _)
theorem inv_succ (c : Dev nD) (t : Fin cfg0.N) (C : Vec F S128x8192 .f32) (h : Inv m c t.val C) :
    Inv m c (t.val + 1) (cscArr (xAt m c t) (gAt m c t) t.val C) := by
  intro y hy
  have hy0 : (y 0).val < 128 := (y 0).isLt
  unfold cscArr
  split
  · rename_i e
    unfold tblN
    have hl : latest (t.val + 1) ((y 0).val / 8) = t.val := by unfold latest; omega
    rw [hl, ptOf_val]
  · rename_i e
    have hlt : (y 0).val / 8 < t.val := by omega
    rw [h y hlt]
    unfold tblN
    have hl : latest (t.val + 1) ((y 0).val / 8) = latest t.val ((y 0).val / 8) := by unfold latest; omega
    rw [hl]
/-- From point 15 on the whole table is known. -/
theorem inv_full (c : Dev nD) (n : ℕ) (hn : 16 ≤ n) (C : Vec F S128x8192 .f32) (h : Inv m c n C) : C = tblN m c n :=
  funext fun y => h y (by have : (y 0).val < 128 := (y 0).isLt; omega)

theorem cond1_iff : ∀ t : Fin grid0.N, k0_cond1 (grid0.coords t) = 1#1 ↔ t.val = 0 := by decide +kernel
theorem cond2_ge : ∀ t : Fin grid0.N, k0_cond2 (grid0.coords t) = 1#1 → 15 ≤ t.val := by decide +kernel
theorem flush5 : ∀ t : Fin grid0.N, ¬ k0_cond2 (grid0.coords t) = 1#1 → win0_5.flush t = false := by decide +kernel

abbrev sc0 : Memref sig .tc .vmem S32x256x256 .bf16 := Memref.whole cc0_scratch0
abbrev sc1 : Memref sig .tc .vmem S256x256 .f32 := Memref.whole cc0_scratch1
abbrev sc2 : Memref sig .tc .vmem S128x8192 .f32 := Memref.whole cc0_scratch2

/-- What holds between points, after `n` of them: the table of diagonal matrices once it is filled, any row scales, the rows of
    column scales written so far, the generator register. -/
def PhiN (c : Dev nD) (n : ℕ) : sProp 𝕄 :=
  iprop((∃ D, ⌜n ≠ 0 → D = dgAt m c⌝ ∗ owns (c : Thread nD τ) sc0 fullShare D)
    ∗ (∃ d, owns (c : Thread nD τ) sc1 fullShare d)
    ∗ (∃ C, ⌜Inv m c n C⌝ ∗ owns (c : Thread nD τ) sc2 fullShare C)
    ∗ ∃ r, prngReg c r)

def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => rcArr (xAt m c t) (dgAt m c)
    | 3 => fun t => k0_pay32 (rscArr (xAt m c t) (dgAt m c))
    | 4 => fun t => ccArr (xAt m c t) (gAt m c t)
    | 5 => fun t => csArr (tblN m c (t.val + 1))
    | 6 => fun t => k0_pay29 (acc (xAt m c t))
    | ⟨_ + 7, h⟩ => absurd h (Nat.not_lt.2 (Nat.le_add_left _ _))
  Φ t := (fun (n : ℕ) (_ : n ≤ cfg0.N) => PhiN m c n) t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiN m c t.val := by
  dsimp only [dats]; exact Pipeline.Dat.Φ_castSucc (fun n _ => PhiN m c n) t
theorem Phi_succ (c : Dev nD) (t : Fin cfg0.N) : (dats m 0 c).Φ t.succ = PhiN m c (t.val + 1) := by
  dsimp only [dats]; rfl
theorem before0 (c : Dev nD) (t : Fin cfg0.N) (d) : (dats m 0 c).before 0 t d = xAt m c t := before0_0_of m _ (A_eq m c 0) (fun _ => rfl) t d
theorem before1 (c : Dev nD) (t : Fin cfg0.N) (d) : (dats m 0 c).before 1 t d = gAt m c t := before0_1_of m _ (A_eq m c 1) (fun _ => rfl) t d

theorem after5 (c : Dev nD) (t : Fin cfg0.N) : (dats m 0 c).after 5 t = csArr (tblN m c (t.val + 1)) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ (dats m 0 c).leavesExact 5 t ∗ owns (c : Thread nD τ) (win0_6.stage (cfg0.slots t 6)) fullShare ((dats m 0 c).after 6 t))

theorem idle5 (t : Fin grid0.N) (h : ¬ k0_cond2 (grid0.coords t) = 1#1) : cfg0.idle 5 (cfg0.grid.coords t) = true := by
  show (!(k0_cond2 (grid0.coords t) == 1#1)) = true
  simpa using h
theorem idle5' (t : Fin grid0.N) (h : k0_cond2 (grid0.coords t) = 1#1) : cfg0.idle 5 (cfg0.grid.coords t) = false := by
  show (!(k0_cond2 (grid0.coords t) == 1#1)) = false
  simp [h]
theorem leaves_out (c : Dev nD) (t : Fin cfg0.N) (h : k0_cond2 (grid0.coords t) = 1#1) :
    (dats m 0 c).leavesExact 5 t = owns (c : Thread nD τ) (win0_5.stage (cfg0.slots t 5)) fullShare ((dats m 0 c).after 5 t) := by
  unfold Pipeline.Dat.leavesExact; rw [idle5' t h]

set_option maxHeartbeats 1000000 in
theorem sound_first (c : Dev nD) (t : Fin cfg0.N) (hc1 : k0_cond1 (grid0.coords t) = 1#1) (hc2 : ¬ k0_cond2 (grid0.coords t) = 1#1) :
    bodyPre m c t ⊢ wp frame (wpE (defs₀ (F := F)) Variants.none c none) Set.univ (bodyAt0 t) (fun _ => bodyPost m c t) := by
  unfold bodyPre bodyPost bodyAt0
  rw [Phi_castSucc, Phi_succ, show (dats m 0 c).owesAt () t.succ = (dats m 0 c).owesAt () t.castSucc from rfl]
  rw [Pipeline.Dat.leavesExact_idle (dats m 0 c) 5 t (idle5 t hc2) (flush5 t hc2)]
  simp only [before0, before1]
  unfold PhiN
  iintro ⟨⟨⟨%Dd, %hD, S0⟩, S1, ⟨%C, %hC, S2⟩, Hg⟩, HO, ⟨%d0, H0⟩, ⟨%d1, H1⟩, ⟨%d2, H2⟩, ⟨%d3, H3⟩, ⟨%d4, H4⟩, ⟨%d5, H5⟩, ⟨%d6, H6⟩⟩
  iapply (run_first c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) hc1 hc2 (xAt m c t) (gAt m c t) Dd C ((dats m 0 c).before 5 t d5) _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0]
    · iexists _; isplitr; swap; · iexact S0
      ipureintro; exact fun _ => rfl
    isplitl [S1]; · iexact S1
    isplitl [S2]
    · iexists _; isplitr; swap; · iexact S2
      ipureintro; exact inv_succ m c t C hC
    iexact Hg
  isplitl [HO]; · iexact HO
  isplitl [H0]; · iexact H0
  isplitl [H1]; · iexact H1
  isplitl [H2]; · iexact H2
  isplitl [H3]; · iexact H3
  isplitl [H4]; · iexact H4
  isplitl [H5]; · iexists d5; iexact H5
  iexact H6

set_option maxHeartbeats 1000000 in
theorem sound_mid (c : Dev nD) (t : Fin cfg0.N) (hc1 : ¬ k0_cond1 (grid0.coords t) = 1#1) (hc2 : ¬ k0_cond2 (grid0.coords t) = 1#1) :
    bodyPre m c t ⊢ wp frame (wpE (defs₀ (F := F)) Variants.none c none) Set.univ (bodyAt0 t) (fun _ => bodyPost m c t) := by
  unfold bodyPre bodyPost bodyAt0
  rw [Phi_castSucc, Phi_succ, show (dats m 0 c).owesAt () t.succ = (dats m 0 c).owesAt () t.castSucc from rfl]
  rw [Pipeline.Dat.leavesExact_idle (dats m 0 c) 5 t (idle5 t hc2) (flush5 t hc2)]
  simp only [before0, before1]
  unfold PhiN
  iintro ⟨⟨⟨%Dd, %hD, S0⟩, S1, ⟨%C, %hC, S2⟩, Hg⟩, HO, ⟨%d0, H0⟩, ⟨%d1, H1⟩, ⟨%d2, H2⟩, ⟨%d3, H3⟩, ⟨%d4, H4⟩, ⟨%d5, H5⟩, ⟨%d6, H6⟩⟩
  replace hD := hD (fun e => hc1 ((cond1_iff t).mpr e))
  iapply (run_mid c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) hc1 hc2 (xAt m c t) (gAt m c t) Dd C ((dats m 0 c).before 5 t d5) _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0]
    · iexists _; isplitr; swap; · iexact S0
      ipureintro; exact fun _ => hD
    isplitl [S1]; · iexact S1
    isplitl [S2]
    · iexists _; isplitr; swap; · iexact S2
      ipureintro; exact inv_succ m c t C hC
    iexact Hg
  isplitl [HO]; · iexact HO
  isplitl [H0]; · iexact H0
  isplitl [H1]; · iexact H1
  isplitl [H2]; · rw [show (dats m 0 c).after 2 t = rcArr (xAt m c t) Dd from by rw [hD]; rfl]; iexact H2
  isplitl [H3]; · rw [show (dats m 0 c).after 3 t = k0_pay32 (rscArr (xAt m c t) Dd) from by rw [hD]; rfl]; iexact H3
  isplitl [H4]; · iexact H4
  isplitl [H5]; · iexists d5; iexact H5
  iexact H6

set_option maxHeartbeats 1000000 in
theorem sound_out (c : Dev nD) (t : Fin cfg0.N) (hc1 : ¬ k0_cond1 (grid0.coords t) = 1#1) (hc2 : k0_cond2 (grid0.coords t) = 1#1) :
    bodyPre m c t ⊢ wp frame (wpE (defs₀ (F := F)) Variants.none c none) Set.univ (bodyAt0 t) (fun _ => bodyPost m c t) := by
  unfold bodyPre bodyPost bodyAt0
  rw [Phi_castSucc, Phi_succ, show (dats m 0 c).owesAt () t.succ = (dats m 0 c).owesAt () t.castSucc from rfl]
  rw [show (dats m 0 c).leavesExact 5 t = owns (c : Thread nD τ) (win0_5.stage (cfg0.slots t 5)) fullShare ((dats m 0 c).after 5 t) from leaves_out m c t hc2]
  simp only [before0, before1]
  unfold PhiN
  iintro ⟨⟨⟨%Dd, %hD, S0⟩, S1, ⟨%C, %hC, S2⟩, Hg⟩, HO, ⟨%d0, H0⟩, ⟨%d1, H1⟩, ⟨%d2, H2⟩, ⟨%d3, H3⟩, ⟨%d4, H4⟩, ⟨%d5, H5⟩, ⟨%d6, H6⟩⟩
  replace hD := hD (fun e => hc1 ((cond1_iff t).mpr e))
  iapply (run_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) hc1 hc2 (xAt m c t) (gAt m c t) Dd C ((dats m 0 c).before 5 t d5) _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0]
    · iexists _; isplitr; swap; · iexact S0
      ipureintro; exact fun _ => hD
    isplitl [S1]; · iexact S1
    isplitl [S2]
    · iexists _; isplitr; swap; · iexact S2
      ipureintro; exact inv_succ m c t C hC
    iexact Hg
  isplitl [HO]; · iexact HO
  isplitl [H0]; · iexact H0
  isplitl [H1]; · iexact H1
  isplitl [H2]; · rw [show (dats m 0 c).after 2 t = rcArr (xAt m c t) Dd from by rw [hD]; rfl]; iexact H2
  isplitl [H3]; · rw [show (dats m 0 c).after 3 t = k0_pay32 (rscArr (xAt m c t) Dd) from by rw [hD]; rfl]; iexact H3
  isplitl [H4]; · iexact H4
  isplitl [H5]; · rw [after5, ← inv_full m c (t.val + 1) (by have := cond2_ge t hc2; omega) _ (inv_succ m c t C hC)]; iexact H5
  iexact H6

theorem sound_body (c : Dev nD) (t : Fin cfg0.N) :
    bodyPre m c t ⊢ wp frame (wpE (defs₀ (F := F)) Variants.none c none) Set.univ (bodyAt0 t) (fun _ => bodyPost m c t) := by
  by_cases hc1 : k0_cond1 (grid0.coords t) = 1#1
  · exact sound_first m c t hc1 (fun h => by have := cond2_ge t h; have := (cond1_iff t).mp hc1; omega)
  · by_cases hc2 : k0_cond2 (grid0.coords t) = 1#1
    · exact sound_out m c t hc1 hc2
    · exact sound_mid m c t hc1 hc2

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem phi_in (c : Dev nD) : Pipeline.ΦA spec0 c ⊢ (dats m 0 c).Φ 0 := by
  show _ ⊢ PhiN m c 0
  unfold Pipeline.ΦA PhiN
  rw [scopedRest0_eq]
  simp only [owns_whole]
  iintro ⟨⟨⟨%f0, S0⟩, ⟨%f1, S1⟩, ⟨%f2, S2⟩⟩, Hg⟩
  isplitl [S0]
  · iexists f0; isplitr; · ipureintro; exact fun h => absurd rfl h
    iexact S0
  isplitl [S1]; · iexists f1; iexact S1
  isplitl [S2]
  · iexists f2; isplitr; · ipureintro; exact inv_zero m c f2
    iexact S2
  iexact Hg
theorem phi_out (c : Dev nD) : (dats m 0 c).Φ (Fin.last cfg0.N) ⊢ Pipeline.ΦA spec0 c := by
  show PhiN m c cfg0.N ⊢ _
  unfold Pipeline.ΦA PhiN
  rw [scopedRest0_eq]
  simp only [owns_whole]
  iintro ⟨⟨%f0, -, S0⟩, ⟨%f1, S1⟩, ⟨%f2, -, S2⟩, Hg⟩
  isplitl [S0 S1 S2]
  · isplitl [S0]; · iexists f0; iexact S0
    isplitl [S1]; · iexists f1; iexact S1
    iexists f2; iexact S2
  iexact Hg

set_option backward.isDefEq.respectTransparency.types false in
/-- Every weakly fair execution of the program terminates; the final state's arrays are what the points wrote, every other unscoped
    buffer is what the host operations leave, and every semaphore counter is zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m) (hQ' := fun _ h => h)

end Cert.Kernel.Hand
end
-- ==== Proof.Frames.lean ====
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Body
public import proofs.«01_k».proof.Proof.WordBody
public import Idealize.ShloMosaic.Lib.Pipeline.Quiescent
@[expose] public section
noncomputable section
namespace Cert.Proof
open Idealize.ShloMosaic Idealize.SL.Sem
/-! # The frame claims: each program runs to its end, leaves its arguments as they were and every semaphore counter at zero -/

theorem frame_kernel : Cert.quiescent_Kernel := fun m ρ _ =>
  θ_run_with_sems (Cert.Kernel.Gen.frame_of m ρ (Cert.Kernel.Hand.dats m) (Cert.Kernel.Hand.A_eq m)) (Cert.Kernel.Hand.run_main m ρ)

theorem frame_ideal : Cert.quiescent_KernelIdeal := fun m ρ _ =>
  θ_run_with_sems (Cert.KernelIdeal.Gen.frame_of m ρ (Cert.KernelIdeal.Hand.dats m) (Cert.KernelIdeal.Hand.A_eq m)) (Cert.KernelIdeal.Hand.run_main m ρ)

theorem frame_reference : Cert.quiescent_ReferenceIdeal := fun m ρ _ =>
  (θ_run Cert.ReferenceIdeal.defs _ _).mono (fun r h => ⟨fun c => ⟨(h c).2.2.2.2.2.1, (h c).2.2.2.2.2.2⟩,
      Idealize.ShloMosaic.sem_eq_zero_of_no_sems (by decide) r.2⟩)
    (Cert.ReferenceIdeal.Value.run (F := Ideal) m ρ)

end Cert.Proof
end
-- ==== Proof.Search.lean ====
module
public import proofs.«01_k».proof.Proof.Vals
public import Idealize.ShloMosaic.PureOps.Ideal
public import Idealize.ShloMosaic.PureOps.Ideal.Laws
public import Mathlib.Tactic.NormNum
public import Mathlib.Tactic.Linarith
public import Mathlib.Tactic.IntervalCases
public section
/-!
# The search for a float's word, and the scale it gives

At extended-real floats `ofBits` sends a word to the number it denotes.  On the words from zero to that of +∞ this is
monotone, so the bit-by-bit search finds the greatest word whose number is at most `a` (`search_le`, `search_iff`).
Adding a constant and masking the word then gives the power of two that `expo` names (`scale_eq`, `inv_eq`).
-/
set_option maxRecDepth 16384
namespace Cert.Quant
open Idealize.ShloMosaic
noncomputable section
@[expose] public section

/-- The number a word denotes. -/
def val (n : ℕ) : EReal := Ideal.ofBits .f32 (BitVec.ofNat 32 n)

/-- The same for a word below that of +∞, as a real: a significand times a power of two. -/
def rv (n : ℕ) : ℝ := if n / 8388608 = 0 then ((n % 8388608 : ℕ) : ℝ) * (2 : ℝ) ^ (-149 : ℤ)
  else ((8388608 + n % 8388608 : ℕ) : ℝ) * (2 : ℝ) ^ ((n / 8388608 : ℕ) - 150 : ℤ)

theorem val_of_lt {n : ℕ} (h : n < 2139095040) : val n = (rv n : EReal) := by
  have hn : (BitVec.ofNat 32 n).toNat = n := by simp; omega
  have hneg : ((BitVec.ofNat 32 n).extractLsb' 31 1 == 1#1) = false := by
    apply beq_false_of_ne
    intro h'
    have := congrArg BitVec.toNat h'
    simp only [BitVec.extractLsb'_toNat, hn, Nat.shiftRight_eq_div_pow] at this
    norm_num at this
    omega
  have hex : ((BitVec.ofNat 32 n).extractLsb' 23 8).toNat = n / 8388608 := by
    simp only [BitVec.extractLsb'_toNat, hn, Nat.shiftRight_eq_div_pow]
    norm_num
    omega
  have hfr : ((BitVec.ofNat 32 n).extractLsb' 0 23).toNat = n % 8388608 := by
    simp only [BitVec.extractLsb'_toNat, hn, Nat.shiftRight_eq_div_pow]
    norm_num
  unfold val
  show Ideal.ieee 8 23 _ = _
  unfold Ideal.ieee rv
  simp only [show (8 + 23 : ℕ) = 31 from rfl, hneg, hex, hfr]
  have h1 : ¬ (n / 8388608 = 2 ^ 8 - 1) := by norm_num; omega
  rw [if_neg h1]
  split
  · congr 1; norm_num
  · congr 1
    have : ((n / 8388608 : ℕ) : ℤ) - (2 ^ (8 - 1) - 1) - (23 : ℕ) = ((n / 8388608 : ℕ) : ℤ) - 150 := by norm_num; ring
    rw [this]
    norm_num

theorem val_inf : val 2139095040 = ⊤ := by
  show Ideal.ieee 8 23 (0x7F800000#32 : BitVec 32) = ⊤; simp [Ideal.ieee]

theorem rv_succ (n : ℕ) : rv n ≤ rv (n + 1) := by
  unfold rv
  have hp : ∀ z : ℤ, (0 : ℝ) < (2 : ℝ) ^ z := fun z => by positivity
  by_cases hm : n % 8388608 = 8388607
  · have e1 : (n + 1) / 8388608 = n / 8388608 + 1 := by omega
    have e2 : (n + 1) % 8388608 = 0 := by omega
    rw [e1, e2, hm, if_neg (by omega : ¬ (n / 8388608 + 1 = 0))]
    split
    next h0 =>
      rw [h0]
      have : ((0 + 1 : ℕ) : ℤ) - 150 = -149 := by norm_num
      rw [this]
      exact mul_le_mul_of_nonneg_right (by norm_num) (hp _).le
    next h0 =>
      have : ((n / 8388608 + 1 : ℕ) : ℤ) - 150 = ((n / 8388608 : ℕ) : ℤ) - 150 + 1 := by push_cast; ring
      rw [this, zpow_add_one₀ (by norm_num)]
      have := hp (((n / 8388608 : ℕ) : ℤ) - 150)
      generalize (2 : ℝ) ^ (((n / 8388608 : ℕ) : ℤ) - 150) = p at this ⊢
      norm_num
      nlinarith
  · have e1 : (n + 1) / 8388608 = n / 8388608 := by omega
    have e2 : (n + 1) % 8388608 = n % 8388608 + 1 := by omega
    rw [e1, e2]
    split
    · exact mul_le_mul_of_nonneg_right (by push_cast; linarith) (hp _).le
    · exact mul_le_mul_of_nonneg_right (by push_cast; linarith) (hp _).le

theorem rv_mono : Monotone rv := monotone_nat_of_le_succ rv_succ

theorem val_mono {m n : ℕ} (hmn : m ≤ n) (hn : n ≤ 2139095040) : val m ≤ val n := by
  rcases Nat.lt_or_ge n 2139095040 with h | h
  · rw [val_of_lt h, val_of_lt (by omega)]; exact EReal.coe_le_coe_iff.2 (rv_mono hmn)
  · rw [show n = 2139095040 by omega, val_inf]; exact le_top

theorem val_zero : val 0 = 0 := by
  rw [val_of_lt (by norm_num)]; simp [rv]

/-- One round: set the bit if the number is still at most `a`. -/
def step (a : EReal) (n b : BitVec 32) : BitVec 32 :=
  Scalar.select (FloatOps.cmpf (F := Ideal) (φ := .f32) .ole (FloatOps.ofBits .f32 (n ||| b)) a) (n ||| b) n

/-- The search after `k` rounds, from the highest bit. -/
def search (a : EReal) : ℕ → BitVec 32
  | 0 => 0#32
  | k + 1 => step a (search a k) (BitVec.ofNat 32 (2 ^ (30 - k)))

theorem step_eq (a : EReal) (n b : BitVec 32) :
    step a n b = if Ideal.ofBits .f32 (n ||| b) ≤ a then n ||| b else n := by
  unfold step
  show Scalar.select (Ideal.cmp .ole (Ideal.ofBits .f32 (n ||| b)) a) (n ||| b) n = _
  by_cases h : Ideal.ofBits .f32 (n ||| b) ≤ a
  · simp [Scalar.select, Ideal.cmp, h]
  · simp [Scalar.select, Ideal.cmp, h]

theorem val_toNat (n : BitVec 32) : Ideal.ofBits .f32 n = val n.toNat := by
  unfold val; rw [BitVec.ofNat_toNat, BitVec.setWidth_eq]

theorem or_two_pow {n j : ℕ} (h : 2 ^ (j + 1) ∣ n) : n ||| 2 ^ j = n + 2 ^ j := by
  obtain ⟨q, rfl⟩ := h
  exact (Nat.two_pow_add_eq_or_of_lt (by rw [Nat.pow_succ]; have := Nat.two_pow_pos j; omega) q).symm

/-- What holds of the search after the bits down to `2 ^ j` are set: `n` is the greatest multiple of `2 ^ j` whose number
is at most `a`. -/
structure Found (a : EReal) (j : ℕ) (n : BitVec 32) : Prop where
  dvd : 2 ^ j ∣ n.toNat
  lt : n.toNat < 2139095040
  le : val n.toNat ≤ a
  gt : ∀ w : ℕ, n.toNat + 2 ^ j ≤ w → w ≤ 2139095040 → a < val w

/-- The next word tried is not above that of +∞. -/
theorem room {n j : ℕ} (hj : j ≤ 30) (hd : 2 ^ (j + 1) ∣ n) (hn : n < 2139095040) : n + 2 ^ j ≤ 2139095040 := by
  have hp := Nat.two_pow_pos j
  have hps : 2 ^ (j + 1) = 2 * 2 ^ j := by rw [Nat.pow_succ]; ring
  rcases Nat.lt_or_ge j 23 with h | h
  · have hd' : 2 ^ (j + 1) ∣ 2139095040 := (pow_dvd_pow 2 (by omega : j + 1 ≤ 23)).trans (by norm_num)
    obtain ⟨q, hq⟩ := hd'
    obtain ⟨r, rfl⟩ := hd
    rw [hq] at hn
    have := Nat.lt_of_mul_lt_mul_left hn
    have : 2 ^ (j + 1) * (r + 1) ≤ 2 ^ (j + 1) * q := Nat.mul_le_mul_left _ this
    rw [← hq, Nat.mul_succ] at this
    omega
  · interval_cases j <;> norm_num at hd ⊢ <;> omega

theorem found_step {a : EReal} (ha : a < ⊤) {j : ℕ} (hj : j ≤ 30) {n : BitVec 32} (h : Found a (j + 1) n) :
    Found a j (step a n (BitVec.ofNat 32 (2 ^ j))) := by
  have hp := Nat.two_pow_pos j
  have hps : 2 ^ (j + 1) = 2 * 2 ^ j := by rw [Nat.pow_succ]; ring
  have hroom := room hj h.dvd h.lt
  have hor : (n ||| BitVec.ofNat 32 (2 ^ j)).toNat = n.toNat + 2 ^ j := by
    rw [BitVec.toNat_or, BitVec.toNat_ofNat, Nat.mod_eq_of_lt (by omega), or_two_pow h.dvd]
  have hd : 2 ^ j ∣ n.toNat := (pow_dvd_pow 2 (Nat.le_succ j)).trans h.dvd
  rw [step_eq, val_toNat, hor]
  split
  next hle =>
    refine ⟨?_, ?_, ?_, ?_⟩
    · rw [hor]; exact Nat.dvd_add hd dvd_rfl
    · rw [hor]
      rcases Nat.lt_or_ge (n.toNat + 2 ^ j) 2139095040 with h1 | h1
      · exact h1
      · rw [show n.toNat + 2 ^ j = 2139095040 by omega, val_inf] at hle
        exact absurd ha (not_lt.2 hle)
    · rw [hor]; exact hle
    · intro w hw; rw [hor] at hw; exact h.gt w (by omega)
  next hle =>
    exact ⟨hd, h.lt, h.le, fun w hw hw' => lt_of_lt_of_le (not_le.1 hle) (val_mono hw hw')⟩

theorem found_search {a : EReal} (h0 : 0 ≤ a) (ha : a < ⊤) (k : ℕ) (hk : k ≤ 31) : Found a (31 - k) (search a k) := by
  induction k with
  | zero => exact ⟨by simp [search], by simp [search], by simpa [search, val_zero] using h0,
      fun w hw hw' => by simp [search] at hw; omega⟩
  | succ k ih =>
    have := ih (by omega)
    rw [show 31 - k = (30 - k) + 1 by omega] at this
    have := found_step ha (by omega) this
    rw [show 31 - (k + 1) = 30 - k by omega]
    exact this

/-- At +∞ every bit is set. -/
theorem search_top (k : ℕ) (hk : k ≤ 31) : (search ⊤ k).toNat = 2147483648 - 2 ^ (31 - k) := by
  induction k with
  | zero => simp [search]
  | succ k ih =>
    have e := ih (by omega)
    have hb : 2 ^ (30 - k) ≤ 1073741824 := (Nat.pow_le_pow_right (by norm_num) (by omega : 30 - k ≤ 30)).trans (by norm_num)
    have hps : 2 ^ (31 - k) = 2 * 2 ^ (30 - k) := by rw [show 31 - k = (30 - k) + 1 by omega, Nat.pow_succ]; ring
    have hdv : 2 ^ (30 - k + 1) ∣ (search ⊤ k).toNat := by
      rw [e, show 30 - k + 1 = 31 - k by omega]
      exact Nat.dvd_sub ((by norm_num : (2147483648 : ℕ) = 2 ^ 31) ▸ pow_dvd_pow 2 (by omega)) dvd_rfl
    show (step ⊤ (search ⊤ k) (BitVec.ofNat 32 (2 ^ (30 - k)))).toNat = _
    rw [step_eq, if_pos le_top, BitVec.toNat_or, BitVec.toNat_ofNat, Nat.mod_eq_of_lt (by omega), or_two_pow hdv, e,
      show 31 - (k + 1) = 30 - k by omega]
    omega

/-- The word found, +∞'s at most. -/
def word (a : EReal) : BitVec 32 := BitVec.ofNat 32 (min (search a 31).toNat 2139095040)

/-- A word's number is at most `a` exactly when the word is at most the word found. -/
theorem word_iff {a : EReal} (h0 : 0 ≤ a) {w : ℕ} (hw : w ≤ 2139095040) : val w ≤ a ↔ w ≤ (word a).toNat := by
  have hwd : (word a).toNat = min (search a 31).toNat 2139095040 := by
    unfold word; rw [BitVec.toNat_ofNat, Nat.mod_eq_of_lt (by omega)]
  rw [hwd]
  rcases eq_or_lt_of_le (le_top (a := a)) with rfl | ha
  · have := search_top 31 le_rfl
    norm_num at this
    rw [this]
    simp
    exact hw
  · have f := found_search h0 ha 31 le_rfl
    have hlt := f.lt
    rw [min_eq_left hlt.le]
    constructor
    · intro h
      by_contra hc
      have := f.gt w (by norm_num; omega) hw
      exact absurd h (not_le.2 this)
    · intro h; exact (val_mono h hlt.le).trans f.le

theorem word_le (a : EReal) : (word a).toNat ≤ 2139095040 := by
  unfold word; rw [BitVec.toNat_ofNat, Nat.mod_eq_of_lt (by omega)]; omega
end
end
end Cert.Quant
-- ==== Proof.Scale.lean ====
module
public import proofs.«01_k».proof.Proof.Search
public section
/-!
# The scale of a group

`scaleOf a` and `invOf a` are what the kernel makes of the word found for `a`: a constant is added, the exponent field is
kept.  They are `2 ^ expo a` and `2 ^ (-expo a)` (`scale_eq`, `inv_eq`), and `expo a` is the exponent the reference takes
by a minimum over all exponents (`expo_ref`).
-/
set_option maxRecDepth 16384
namespace Cert.Quant
open Idealize.ShloMosaic
noncomputable section
@[expose] public section

/-- The word of the scale, from the word found. -/
def field (n : BitVec 32) : BitVec 32 :=
  Scalar.select (IntOp.cmpi .slt (IntOp.addi (IntOp.minsi n 2139095040#32) 4229955585#32) 16777216#32) 1065353216#32
    (IntOp.andi (IntOp.addi (IntOp.minsi n 2139095040#32) 4229955585#32) 2139095040#32)
/-- The scale. -/
def scaleOf (a : EReal) : EReal := Ideal.ofBits .f32 (field (search a 31))
/-- Its inverse. -/
def invOf (a : EReal) : EReal := Ideal.ofBits .f32 (IntOp.subi 2130706432#32 (field (search a 31)))

/-- The exponent. -/
def expo (a : EReal) : ℤ :=
  if (word a).toNat < 81788927 then 0 else ((((word a).toNat - 65011711) / 8388608 : ℕ) : ℤ) - 127

theorem and_mask {v : ℕ} (h : v < 2147483648) : v &&& 2139095040 = v / 8388608 * 8388608 := by
  apply Nat.eq_of_testBit_eq
  intro i
  rw [show (8388608 : ℕ) = 2 ^ 23 by norm_num, show (2139095040 : ℕ) = (2 ^ 8 - 1) * 2 ^ 23 by norm_num, Nat.testBit_and,
    Nat.testBit_mul_two_pow, Nat.testBit_mul_two_pow, Nat.testBit_two_pow_sub_one, Nat.testBit_div_two_pow]
  by_cases h23 : 23 ≤ i
  · by_cases h31 : i < 31
    · simp [h23, show i - 23 < 8 by omega, show 23 + (i - 23) = i by omega, show i - 23 + 23 = i by omega]
    · have : v.testBit i = false := Nat.testBit_lt_two_pow (lt_of_lt_of_le h ((by norm_num : 2147483648 = 2 ^ 31) ▸ Nat.pow_le_pow_right (by norm_num) (by omega)))
      simp [this, show 23 + (i - 23) = i by omega, show i - 23 + 23 = i by omega]
  · simp [h23]

theorem search_lt {a : EReal} (h0 : 0 ≤ a) : (search a 31).toNat < 2147483648 := by
  rcases eq_or_lt_of_le (le_top (a := a)) with rfl | ha
  · rw [search_top 31 le_rfl]; norm_num
  · have := (found_search h0 ha 31 le_rfl).lt; omega

theorem toInt_small {n : BitVec 32} (h : n.toNat < 2147483648) : n.toInt = n.toNat := by
  rw [BitVec.toInt_eq_toNat_cond, if_pos (by norm_num; omega)]

theorem minsi_eq {n : BitVec 32} (h : n.toNat < 2147483648) : (IntOp.minsi n 2139095040#32).toNat = min n.toNat 2139095040 := by
  have e : n.slt 2139095040#32 = decide (n.toNat < 2139095040) := by
    rw [BitVec.slt_eq_decide, toInt_small h]
    simp
  unfold IntOp.minsi
  rw [e]
  by_cases h1 : n.toNat < 2139095040
  · simp [h1]; omega
  · simp [h1]; omega

theorem field_toNat {n : BitVec 32} (h : n.toNat < 2147483648) :
    (field n).toNat = if min n.toNat 2139095040 < 81788927 then 1065353216
      else (min n.toNat 2139095040 - 65011711) / 8388608 * 8388608 := by
  set m := IntOp.minsi n 2139095040#32 with hm
  have hmn : m.toNat = min n.toNat 2139095040 := minsi_eq h
  rw [← hmn]
  have hle : m.toNat ≤ 2139095040 := by rw [hmn]; omega
  set v := IntOp.addi m 4229955585#32 with hv
  have hvn : v.toNat = (m.toNat + 4229955585) % 4294967296 := by
    rw [hv]; show (m + 4229955585#32).toNat = _; rw [BitVec.toNat_add]; norm_num
  have hvi : v.toInt = (m.toNat : ℤ) - 65011711 := by
    rw [BitVec.toInt_eq_toNat_cond, hvn, show (2 : ℕ) ^ 32 = 4294967296 by norm_num]; split <;> omega
  have hc : IntOp.cmpi .slt v 16777216#32 = BitVec.ofBool (decide (m.toNat < 81788927)) := by
    show BitVec.ofBool (v.slt 16777216#32) = _
    rw [BitVec.slt_eq_decide, hvi]
    rw [show (16777216#32).toInt = 16777216 by decide]
    exact congrArg BitVec.ofBool (decide_eq_decide.2 (by omega))
  show (Scalar.select (IntOp.cmpi .slt v 16777216#32) 1065353216#32 (IntOp.andi v 2139095040#32)).toNat = _
  rw [hc]
  by_cases h1 : m.toNat < 81788927
  · simp [h1, Scalar.select]
  · have hv2 : v.toNat = m.toNat - 65011711 := by rw [hvn]; omega
    have : (IntOp.andi v 2139095040#32).toNat = (m.toNat - 65011711) / 8388608 * 8388608 := by
      show (v &&& 2139095040#32).toNat = _
      rw [BitVec.toNat_and, hv2]
      exact and_mask (by omega)
    simp [h1, Scalar.select, this]

theorem val_field {e : ℕ} (h0 : 0 < e) (h1 : e < 255) : val (e * 8388608) = (((2 : ℝ) ^ ((e : ℤ) - 127) : ℝ) : EReal) := by
  rw [val_of_lt (by omega)]
  unfold rv
  rw [show e * 8388608 / 8388608 = e by omega, show e * 8388608 % 8388608 = 0 by omega, if_neg (by omega)]
  congr 1
  rw [show ((8388608 + 0 : ℕ) : ℝ) = (2 : ℝ) ^ (23 : ℤ) by norm_num, ← zpow_add₀ (by norm_num)]
  congr 1; ring

theorem word_toNat (a : EReal) : (word a).toNat = min (search a 31).toNat 2139095040 := by
  unfold word; rw [BitVec.toNat_ofNat, Nat.mod_eq_of_lt (by omega)]

theorem field_expo {a : EReal} (h0 : 0 ≤ a) :
    ∃ e : ℕ, (field (search a 31)).toNat = e * 8388608 ∧ 0 < e ∧ e < 248 ∧ expo a = (e : ℤ) - 127 := by
  have h := field_toNat (search_lt h0)
  rw [← word_toNat] at h
  have hle := word_le a
  unfold expo
  by_cases h1 : (word a).toNat < 81788927
  · rw [if_pos h1] at h
    exact ⟨127, by rw [h], by norm_num, by norm_num, by rw [if_pos h1]; norm_num⟩
  · rw [if_neg h1] at h
    exact ⟨_, h, by omega, by omega, by rw [if_neg h1]⟩

theorem scale_eq {a : EReal} (h0 : 0 ≤ a) : scaleOf a = (((2 : ℝ) ^ (expo a) : ℝ) : EReal) := by
  obtain ⟨e, he, h1, h2, h3⟩ := field_expo h0
  unfold scaleOf
  rw [val_toNat, he, val_field h1 (by omega), h3]

theorem inv_eq {a : EReal} (h0 : 0 ≤ a) : invOf a = (((2 : ℝ) ^ (-expo a) : ℝ) : EReal) := by
  obtain ⟨e, he, h1, h2, h3⟩ := field_expo h0
  unfold invOf
  have : (IntOp.subi 2130706432#32 (field (search a 31))).toNat = (254 - e) * 8388608 := by
    show (2130706432#32 - field (search a 31)).toNat = _
    rw [BitVec.toNat_sub, he]
    simp
    omega
  rw [val_toNat, this, val_field (by omega) (by omega), h3, show ((254 - e : ℕ) : ℤ) - 127 = -((e : ℤ) - 127) by omega]

/-- The threshold of exponent `k`, as a word's number. -/
theorem val_thr {k : ℤ} (h0 : -134 ≤ k) (h1 : k ≤ 119) :
    val ((k + 135).toNat * 8388608 + 6291455) = (((14680063 * (2 : ℝ) ^ (-15 : ℤ)) * (2 : ℝ) ^ k : ℝ) : EReal) := by
  obtain ⟨q, hq⟩ : ∃ q : ℕ, k + 135 = q := ⟨(k + 135).toNat, by omega⟩
  rw [hq, Int.toNat_natCast, val_of_lt (by omega)]
  unfold rv
  rw [show (q * 8388608 + 6291455) / 8388608 = q by omega, show (q * 8388608 + 6291455) % 8388608 = 6291455 by omega,
    if_neg (by omega)]
  congr 1
  rw [mul_assoc, ← zpow_add₀ (by norm_num), show (q : ℤ) - 150 = -15 + k by omega]
  norm_num

/-- The exponent the reference takes: 0 for a group near zero, else the least in range whose threshold is above `a`. -/
def expoRef (a : EReal) : EReal :=
  if a < val 81788927 then 0 else
    (Finset.univ : Finset (Fin 246)).fold min ⊤ fun i =>
      if a < (((14680063 * (2 : ℝ) ^ (-15 : ℤ)) * (2 : ℝ) ^ ((i.val : ℤ) - 125) : ℝ) : EReal)
      then ((((i.val : ℤ) - 125 : ℤ) : ℝ) : EReal) else ((120 : ℝ) : EReal)

theorem expo_ref {a : EReal} (h0 : 0 ≤ a) : expoRef a = (((expo a : ℤ) : ℝ) : EReal) := by
  unfold expoRef
  have hlow : a < val 81788927 ↔ (word a).toNat < 81788927 := by
    rw [← not_le, word_iff h0 (by norm_num), not_le]
  by_cases h1 : (word a).toNat < 81788927
  · rw [if_pos (hlow.2 h1)]; unfold expo; rw [if_pos h1]; simp
  · rw [if_neg (fun h => h1 (hlow.1 h))]
    have hle := word_le a
    have he : expo a = ((((word a).toNat - 65011711) / 8388608 : ℕ) : ℤ) - 127 := by unfold expo; rw [if_neg h1]
    have hb0 : -125 ≤ expo a := by rw [he]; omega
    have hb1 : expo a ≤ 120 := by rw [he]; omega
    have hk : ∀ k : ℤ, -125 ≤ k → k ≤ 119 →
        (a < (((14680063 * (2 : ℝ) ^ (-15 : ℤ)) * (2 : ℝ) ^ k : ℝ) : EReal) ↔ expo a ≤ k) := by
      intro k hk0 hk1
      rw [← val_thr (by omega) hk1, ← not_le, word_iff h0 (by omega), not_le, he]
      omega
    show Finset.inf Finset.univ _ = _
    apply le_antisymm
    · refine (Finset.inf_le (Finset.mem_univ (⟨(expo a + 125).toNat, by omega⟩ : Fin 246))).trans ?_
      have e1 : (((expo a + 125).toNat : ℕ) : ℤ) - 125 = expo a := by omega
      simp only [e1]
      by_cases h120 : expo a = 120
      · rw [h120]; split <;> norm_num
      · rw [if_pos ((hk _ hb0 (by omega)).2 le_rfl)]
    · refine Finset.le_inf fun i _ => ?_
      have hi := i.isLt
      split
      next hlt =>
        rw [EReal.coe_le_coe_iff, Int.cast_le]
        by_cases h120 : (i.val : ℤ) - 125 ≤ 119
        · exact (hk _ (by omega) h120).1 hlt
        · omega
      next hlt =>
        rw [EReal.coe_le_coe_iff]
        exact_mod_cast hb1
end
end
end Cert.Quant
-- ==== Proof.Pays.lean ====
module
public import proofs.«01_k».proof.Proof.Scale
public import Idealize.ShloMosaic.Lib.Pipeline.Value
public import Idealize.ShloMosaic.Lib.ValueIdx
public section
/-!
# The scales as the kernel's payloads compute them, entry by entry

The rounds of the search are spread over several payloads; here they are put together.
-/
set_option maxRecDepth 16384
namespace Cert.KernelIdeal.Hand
open Idealize.ShloMosaic Cert.KernelIdeal.Gen Cert.Quant
noncomputable section
@[expose] public section

theorem rounds6_16 {a : EReal} {w : BitVec 32} (h : w = search a 6) :
    step a (step a (step a (step a (step a (step a (step a (step a (step a (step a w 16777216#32) 8388608#32) 4194304#32) 2097152#32) 1048576#32) 524288#32) 262144#32) 131072#32) 65536#32) 32768#32 = search a 16 := by
  subst h; rfl

theorem rounds16_26 {a : EReal} {w : BitVec 32} (h : w = search a 16) :
    step a (step a (step a (step a (step a (step a (step a (step a (step a (step a w 16384#32) 8192#32) 4096#32) 2048#32) 1024#32) 512#32) 256#32) 128#32) 64#32) 32#32 = search a 26 := by
  subst h; rfl

theorem rounds26_31 {a : EReal} {w : BitVec 32} (h : w = search a 26) :
    step a (step a (step a (step a (step a w 16#32) 8#32) 4#32) 2#32) 1#32 = search a 31 := by
  subst h; rfl

theorem rounds5_14 {a : EReal} {w : BitVec 32} (h : w = search a 5) :
    step a (step a (step a (step a (step a (step a (step a (step a (step a w 33554432#32) 16777216#32) 8388608#32) 4194304#32) 2097152#32) 1048576#32) 524288#32) 262144#32) 131072#32 = search a 14 := by
  subst h; rfl

theorem rounds15_24 {a : EReal} {w : BitVec 32} (h : w = search a 15) :
    step a (step a (step a (step a (step a (step a (step a (step a (step a w 32768#32) 16384#32) 8192#32) 4096#32) 2048#32) 1024#32) 512#32) 256#32) 128#32 = search a 24 := by
  subst h; rfl

theorem rounds25_31 {a : EReal} {w : BitVec 32} (h : w = search a 25) :
    step a (step a (step a (step a (step a (step a w 32#32) 16#32) 8#32) 4#32) 2#32) 1#32 = search a 31 := by
  subst h; rfl

theorem bitcast_at (w : IVec S8x256 32) (i : S8x256.Idx) : bitcastToFloat (F := Ideal) .f32 w i = Ideal.ofBits .f32 (w i) := rfl

theorem subi_at (c : BitVec 32) (w : IVec S8x256 32) (i : S8x256.Idx) :
    subi (broadcast S8x256 c) w i = IntOp.subi c (w i) := rfl

/-! ## Row groups -/

section Row
variable (xb : Vec Ideal S256x256 .bf16) (db : Vec Ideal S1x256x256 .bf16) (gb : Vec Ideal S1x256 .bf16)
  (a : FVec Ideal S256x128 .f32) (v16 : FVec Ideal S1x256 .f32) (m : FVec Ideal S8x256 .f32) (n : IVec S8x256 32) (i : S8x256.Idx)

theorem pay5_at : k0_pay5 v16 xb db i = search (k0_pay4 v16 xb db i) 6 := by
  unfold k0_pay5
  generalize k0_pay4 v16 xb db = m
  rfl

theorem pay6_at (h : n i = search (m i) 6) : k0_pay6 m n 16777216#32 i = search (m i) 16 := by
  rw [← rounds6_16 h]; rfl

theorem pay7_at (h : n i = search (m i) 16) : k0_pay7 m n 16384#32 i = search (m i) 26 := by
  rw [← rounds16_26 h]; rfl

theorem pay8_at (h : n i = search (m i) 26) : k0_pay8 m n 16#32 i = field (search (m i) 31) := by
  rw [← rounds26_31 h]; rfl

theorem rowSearch_at : rowSearch xb db a i = search (rowMax xb db a i) 26 := by
  unfold rowSearch rowMax
  exact pay7_at _ _ i (pay6_at _ _ i (pay5_at xb db _ i))

/-- The scale payload reads the word. -/
theorem pay9_at (c : BitVec 32) : k0_pay9 m n c i = Ideal.ofBits .f32 (k0_pay8 m n c i) := by
  unfold k0_pay9
  generalize k0_pay8 m n c = w
  rw [shapeCast_self]
  rfl

/-- The multiplier payload reads the inverse of the word's scale. -/
theorem pay10_at (c : BitVec 32) : k0_pay10 v16 m n c i
    = Ideal.ofBits .f32 (IntOp.subi 2130706432#32 (k0_pay8 m n c i)) * broadcastTo S8x256 v16 broadcasts_S1x256_S8x256 i := by
  unfold k0_pay10
  generalize k0_pay8 m n c = w
  rw [ValueIdx.mulf_apply, bitcast_at, subi_at]

/-- The scale of a row group. -/
theorem rowScale_at : rowScale xb db a i = scaleOf (rowMax xb db a i) := by
  unfold rowScale scaleOf
  rw [pay9_at, pay8_at _ _ i (rowSearch_at xb db a i)]

/-- What a row group is multiplied by. -/
theorem rowMul_at : k0_pay10 (k0_pay28 a) (rowMax xb db a) (rowSearch xb db a) 16#32 i
    = invOf (rowMax xb db a i) * broadcastTo S8x256 (k0_pay28 a) broadcasts_S1x256_S8x256 i := by
  unfold invOf
  rw [pay10_at, pay8_at _ _ i (rowSearch_at xb db a i)]

/-! ## Column groups -/

theorem pay15_at (v12 : FVec Ideal S256x1 .f32) (v43 : FVec Ideal S256x256 .bf16) :
    k0_pay15 v12 v43 gb i = search (k0_pay14 v12 v43 gb i) 4 := by
  unfold k0_pay15
  generalize k0_pay14 v12 v43 gb = m
  rfl

theorem pay16_at (v12 : FVec Ideal S256x1 .f32) (v43 : FVec Ideal S256x256 .bf16) :
    k0_pay16 v12 v43 gb i = k0_pay15 v12 v43 gb i ||| 67108864#32 := by
  unfold k0_pay16
  generalize k0_pay15 v12 v43 gb = m
  rfl

theorem pay17_at (t : IVec S8x256 32) (h : n i = search (m i) 4) (ht : t i = n i ||| 67108864#32) :
    k0_pay17 m n t i = search (m i) 14 := by
  have h5 : Scalar.select (FloatOps.cmpf (F := Ideal) (φ := .f32) .ole (FloatOps.ofBits .f32 (t i)) (m i)) (t i) (n i)
      = search (m i) 5 := by rw [ht, h]; rfl
  rw [← rounds5_14 h5]; rfl

theorem pay18_at (t : IVec S8x256 32) : k0_pay18 m n t i = k0_pay17 m n t i ||| 65536#32 := by
  unfold k0_pay18
  generalize k0_pay17 m n t = w
  rfl

theorem pay19_at (t : IVec S8x256 32) (h : n i = search (m i) 14) (ht : t i = n i ||| 65536#32) :
    k0_pay19 m n t i = search (m i) 24 := by
  have h5 : Scalar.select (FloatOps.cmpf (F := Ideal) (φ := .f32) .ole (FloatOps.ofBits .f32 (t i)) (m i)) (t i) (n i)
      = search (m i) 15 := by rw [ht, h]; rfl
  rw [← rounds15_24 h5]; rfl

theorem pay20_at (t : IVec S8x256 32) : k0_pay20 m n t i = k0_pay19 m n t i ||| 64#32 := by
  unfold k0_pay20
  generalize k0_pay19 m n t = w
  rfl

theorem pay21_at (t : IVec S8x256 32) (h : n i = search (m i) 24) (ht : t i = n i ||| 64#32) :
    k0_pay21 m n t i = field (search (m i) 31) := by
  have h5 : Scalar.select (FloatOps.cmpf (F := Ideal) (φ := .f32) .ole (FloatOps.ofBits .f32 (t i)) (m i)) (t i) (n i)
      = search (m i) 25 := by rw [ht, h]; rfl
  rw [← rounds25_31 h5]; rfl

theorem colSearch1_at : colSearch1 xb gb a i = search (colMax xb gb a i) 14 := by
  unfold colSearch1 colMax
  exact pay17_at _ _ i _ (pay15_at gb i _ _) (pay16_at gb i _ _)

theorem colTry1_at : colTry1 xb gb a i = colSearch1 xb gb a i ||| 65536#32 := by
  unfold colTry1 colSearch1
  exact pay18_at _ _ i _

theorem colSearch2_at : colSearch2 xb gb a i = search (colMax xb gb a i) 24 := by
  unfold colSearch2
  exact pay19_at _ _ i _ (colSearch1_at xb gb a i) (colTry1_at xb gb a i)

theorem colTry2_at : colTry2 xb gb a i = colSearch2 xb gb a i ||| 64#32 := by
  unfold colTry2 colSearch2
  exact pay20_at _ _ i _

theorem colField_at : k0_pay21 (colMax xb gb a) (colSearch2 xb gb a) (colTry2 xb gb a) i
    = field (search (colMax xb gb a i) 31) :=
  pay21_at _ _ i _ (colSearch2_at xb gb a i) (colTry2_at xb gb a i)

theorem pay22_at (t : IVec S8x256 32) : k0_pay22 m n t i = Ideal.ofBits .f32 (k0_pay21 m n t i) := by
  unfold k0_pay22
  generalize k0_pay21 m n t = w
  rfl

theorem pay23_at (t : IVec S8x256 32) :
    k0_pay23 m n t i = Ideal.ofBits .f32 (IntOp.subi 2130706432#32 (k0_pay21 m n t i)) := by
  unfold k0_pay23
  generalize k0_pay21 m n t = w
  rw [bitcast_at, subi_at]

/-- The scale of a column group. -/
theorem colScale_at : colScale xb gb a i = scaleOf (colMax xb gb a i) := by
  unfold colScale scaleOf k0_pay30
  rw [shapeCast_self, pay22_at, colField_at]

/-- Its inverse. -/
theorem colInv_at : k0_pay23 (colMax xb gb a) (colSearch2 xb gb a) (colTry2 xb gb a) i = invOf (colMax xb gb a i) := by
  unfold invOf
  rw [pay23_at, colField_at]

end Row
end
end
end Cert.KernelIdeal.Hand
-- ==== Proof.Entries.lean ====
module
public import proofs.«01_k».proof.Proof.Pays
public import Idealize.ShloMosaic.Lib.ValueIdx
public import Idealize.ShloMosaic.Lib.ValueLayout
public section
/-!
# The payloads of one grid point at extended-real floats, entry by entry
-/
set_option maxRecDepth 16384
namespace Cert.Quant
open Idealize.ShloMosaic
noncomputable section
@[expose] public section
/-- The magnitude. -/
def mag (x : EReal) : EReal := max x (-x)
/-- The largest of 32. -/
def gmax (f : Fin 32 → EReal) : EReal := (Finset.univ : Finset (Fin 32)).fold max ⊥ f
/-- The codes' range. -/
def clip (x : EReal) : EReal := min (Ideal.ofBits .f32 0x43E00000#32) (max (Ideal.ofBits .f32 0xC3E00000#32) x)
/-- The reciprocal root mean square, from the sum of squares. -/
def rms (s : EReal) : EReal := Ideal.rsqrt (s * Ideal.ofBits .f32 0x39000000#32 + Ideal.ofBits .f32 0x3727C5AC#32)
/-- Row `l` of group `p`. -/
def grow (p : Fin 8) (l : Fin 32) : Fin 256 := ⟨32 * p.val + l.val, by omega⟩
theorem ofBits_ninf : Ideal.ofBits .f32 0xFF800000#32 = ⊥ := by
  show Ideal.ieee 8 23 (0xFF800000#32 : BitVec 32) = ⊥; simp [Ideal.ieee]
theorem ofBits_zero : Ideal.ofBits .f32 0x00000000#32 = 0 := by
  show Ideal.ieee 8 23 (0x00000000#32 : BitVec 32) = 0; simp [Ideal.ieee]
end
end
end Cert.Quant

namespace Cert.KernelIdeal.Hand
open Idealize.ShloMosaic Cert.KernelIdeal Cert.KernelIdeal.Gen Cert.Quant Idealize.ShloMosaic.ValueIdx
noncomputable section
@[expose] public section
variable (xb : Vec Ideal S256x256 .bf16) (db : Vec Ideal S1x256x256 .bf16) (gb : Vec Ideal S1x256 .bf16)
  (a : FVec Ideal S256x128 .f32)

theorem pay2_eq : k0_pay2 xb = xb := by unfold k0_pay2; rw [shapeCast_self]

theorem cast_group {α : Type} (v : S256x256.Idx → α) (h : S256x256.ShapeCasts S8x32x256) (p : Fin 8) (l : Fin 32) (c : Fin 256) :
    shapeCast S8x32x256 v h (ix3 p l c) = v (ix2 (grow p l) c) :=
  shapeCast_apply v h _ _ (by
    rw [Shape.rowMajor_val_two, Shape.rowMajor_val_three]
    show (32 * p.val + l.val) * 256 + c.val = (p.val * 32 + l.val) * 256 + c.val
    omega)

theorem cast_ungroup {α : Type} (v : S8x32x256.Idx → α) (h : S8x32x256.ShapeCasts S256x256) (p : Fin 8) (l : Fin 32) (c : Fin 256) :
    shapeCast S256x256 v h (ix2 (grow p l) c) = v (ix3 p l c) :=
  shapeCast_apply v h _ _ (by
    rw [Shape.rowMajor_val_two, Shape.rowMajor_val_three]
    show (p.val * 32 + l.val) * 256 + c.val = (32 * p.val + l.val) * 256 + c.val
    omega)

theorem max_group (v : FVec Ideal S8x32x256 .f32) (h : S8x32x256.Reduces [1] S8x256) (hφ : FKind.Formats .f32)
    (hacc : (0xFF800000#32 : BitVec 32) = FKind.maximumf.neutral .f32 hφ) (p : Fin 8) (c : Fin 256) :
    multiReduction .maximumf [1] S8x256 v 0xFF800000#32 h hφ hacc (ix2 p c) = gmax fun l => v (ix3 p l c) := by
  refine (Ideal.multiReduction_maximumf_single v _ h hφ hacc (ix2 p c)).trans ?_
  rw [Ideal.ofBits_def, ofBits_ninf]
  refine congrArg (Finset.fold max ⊥ · Finset.univ) (funext fun l => congrArg v ?_)
  funext b
  match b with | ⟨0, _⟩ => rfl | ⟨1, _⟩ => rfl | ⟨2, _⟩ => rfl

theorem sum_lanes (v : FVec Ideal S256x128 .f32) (h : S256x128.Reduces [1] S256) (hφ : FKind.Formats .f32)
    (hacc : (0x00000000#32 : BitVec 32) = FKind.add.neutral .f32 hφ) (r : Fin 256) :
    multiReduction .add [1] S256 v 0x00000000#32 h hφ hacc (ix1 r) = ∑ l : Fin 128, v (ix2 r l) := by
  refine (Ideal.multiReduction_add_single v _ h hφ hacc (ix1 r)).trans ?_
  refine Finset.sum_congr rfl fun l _ => congrArg v ?_
  funext b
  match b with | ⟨0, _⟩ => rfl | ⟨1, _⟩ => rfl

theorem cast_col {α : Type} (v : S256.Idx → α) (h : S256.ShapeCasts S256x1) (r : Fin 256) :
    shapeCast S256x1 v h (ix2 r 0) = v (ix1 r) :=
  shapeCast_apply v h _ _ (by rw [Shape.rowMajor_val_two, Shape.rowMajor_val_one]; show r.val = r.val * 1 + 0; omega)

theorem row_of_1 {α : Type} (v : S1x256.Idx → α) (p : Fin 8) (c : Fin 256) :
    broadcastTo S8x256 v broadcasts_S1x256_S8x256 (ix2 p c) = v (ix2 0 c) :=
  broadcastTo_apply v _ _ _ fun b => match b with | ⟨0, _⟩ => rfl | ⟨1, _⟩ => rfl

theorem spread {α : Type} (v : S8x256.Idx → α) (p : Fin 8) (l : Fin 32) (c : Fin 256) :
    broadcastTo S8x32x256 (shapeCast S8x1x256 v shapeCasts_S8x256_S8x1x256) broadcasts_S8x1x256_S8x32x256 (ix3 p l c)
      = v (ix2 p c) := by
  rw [broadcastTo_apply _ _ _ (show S8x1x256.Idx from ix3 p 0 c) fun b => match b with | ⟨0, _⟩ => rfl | ⟨1, _⟩ => rfl | ⟨2, _⟩ => rfl]
  exact shapeCast_apply v _ _ _ (by
    rw [Shape.rowMajor_val_two, Shape.rowMajor_val_three]
    show p.val * 256 + c.val = (p.val * 1 + 0) * 256 + c.val
    omega)

/-- The reciprocal root mean square of row `r` of the block. -/
theorem pay27_at (r : Fin 256) : k0_pay27 a (ix2 r 0) = rms (∑ l : Fin 128, a (ix2 r l)) := by
  unfold k0_pay27 rms
  have e := (cast_col _ shapeCasts_S256_S256x1 r).trans (sum_lanes a reduces_S256x128_S256 (.inl rfl) rfl r)
  exact congrArg (fun z => Ideal.rsqrt (z * Ideal.ofBits .f32 0x39000000#32 + Ideal.ofBits .f32 0x3727C5AC#32)) e

theorem pay28_at (r : Fin 256) : k0_pay28 a (ix2 0 r) = k0_pay27 a (ix2 r 0) := by
  unfold k0_pay28
  generalize k0_pay27 a = v
  rw [shapeCast_self, extractStridedSlice_apply _ _ _ _ (show S128x256.Idx from ix2 0 r)
    fun b => match b with | ⟨0, _⟩ => rfl | ⟨1, _⟩ => by show r.val = 0 + r.val; omega]
  rw [transpose_ix2_apply, broadcastTo_apply _ _ _ (show S256x1.Idx from ix2 r 0) fun b => match b with | ⟨0, _⟩ => rfl | ⟨1, _⟩ => rfl]

theorem pay29_at (r : Fin 256) : k0_pay29 a (ix3 0 0 r) = k0_pay27 a (ix2 r 0) := by
  rw [← pay28_at]
  unfold k0_pay29
  generalize k0_pay28 a = v
  exact shapeCast_apply v _ _ _ (by
    rw [Shape.rowMajor_val_two, Shape.rowMajor_val_three]; rfl)

theorem pay32_at (v : Vec Ideal S256x256 .f32) (r j : Fin 256) : k0_pay32 v (ix2 r j) = v (ix2 j r) := by
  unfold k0_pay32; rw [transpose_ix2_apply]

/-! ## Column groups -/

theorem pay12_at (s : FVec Ideal S256x1 .f32) (p : Fin 8) (l : Fin 32) (c : Fin 256) :
    k0_pay12 s xb (ix3 p l c) = xb (ix2 (grow p l) c) * s (ix2 (grow p l) 0) := by
  unfold k0_pay12
  rw [cast_group, mulf_apply, broadcastTo_apply _ _ _ (show S256x1.Idx from ix2 (grow p l) 0) fun b => match b with | ⟨0, _⟩ => rfl | ⟨1, _⟩ => rfl]
  rfl

theorem pay13_eq : k0_pay13 gb = gb := by
  unfold k0_pay13; rw [shapeCast_self]; rfl

/-- The largest magnitude of a column group. -/
theorem colMax_at (p : Fin 8) (c : Fin 256) : colMax xb gb a (ix2 p c)
    = (gmax fun l => mag (xb (ix2 (grow p l) c) * k0_pay27 a (ix2 (grow p l) 0))) * mag (gb (ix2 0 c)) := by
  unfold colMax k0_pay14
  rw [pay2_eq, pay13_eq, mulf_apply, row_of_1]
  refine congrArg₂ (· * ·) ((max_group _ _ _ _ p c).trans (congrArg gmax (funext fun l => ?_))) rfl
  rw [← pay12_at]
  rfl

/-- The code at row `grow p l` of column `c`. -/
theorem colCodes_at (p : Fin 8) (l : Fin 32) (c : Fin 256) : colCodes xb gb a (ix2 c (grow p l))
    = clip (xb (ix2 (grow p l) c) * k0_pay27 a (ix2 (grow p l) 0) * (invOf (colMax xb gb a (ix2 p c)) * gb (ix2 0 c))) := by
  unfold colCodes k0_pay31
  rw [pay2_eq, pay13_eq, transpose_ix2_apply, cast_ungroup, ← pay12_at, ← colInv_at, ← row_of_1 gb p c, ← mulf_apply]
  refine congrArg clip (congrArg₂ (· * ·) rfl (spread _ p l c))

/-! ## Row groups -/

/-- Entry `(i, j)` of a diagonal matrix of gains. -/
theorem pay24_at (i j : Fin 256) : k0_pay24 gb (ix3 0 i j) = if i = j then gb (ix2 0 j) else 0 := by
  unfold k0_pay24
  rw [shapeCast_ab_1ab_apply, shapeCast_self, shapeCast_self]
  show Scalar.select (IntOp.cmpi .eq (iota .tc S256x256 32 [0] iota_S256x256_d0_w32 (ix2 i j)) (iota .tc S256x256 32 [1] iota_S256x256_d1_w32 (ix2 i j)))
    (broadcastTo S256x256 gb broadcasts_S1x256_S256x256 (ix2 i j)) (Ideal.ofBits .f32 0x00000000#32) = _
  rw [broadcastTo_apply _ _ _ (show S1x256.Idx from ix2 0 j) fun b => match b with | ⟨0, _⟩ => rfl | ⟨1, _⟩ => rfl, ofBits_zero]
  have e : IntOp.cmpi .eq (iota .tc S256x256 32 [0] iota_S256x256_d0_w32 (ix2 i j)) (iota .tc S256x256 32 [1] iota_S256x256_d1_w32 (ix2 i j))
      = BitVec.ofBool (decide (i = j)) := by
    show BitVec.ofBool (BitVec.ofNat 32 (0 * 256 + i.val) == BitVec.ofNat 32 (0 * 256 + j.val)) = _
    congr 1
    rw [Nat.zero_mul, Nat.zero_add, Nat.zero_add]
    rw [Bool.eq_iff_iff]
    simp only [beq_iff_eq, decide_eq_true_eq]
    constructor
    · intro h
      have := congrArg BitVec.toNat h
      simp only [BitVec.toNat_ofNat] at this
      have := i.isLt
      have := j.isLt
      exact Fin.ext (by omega)
    · rintro rfl; rfl
  rw [e]
  by_cases h : i = j
  · simp [h, Scalar.select]
  · simp [h, Scalar.select]

/-- The product with a diagonal matrix, transposed. -/
theorem pay3_at (p : Fin 8) (l : Fin 32) (r : Fin 256) : k0_pay3 xb db (ix3 p l r)
    = ∑ k : Fin 256, db (ix3 0 (grow p l) k) * xb (ix2 r k) := by
  unfold k0_pay3
  rw [pay2_eq, cast_group]
  refine (Ideal.matmul_constant_zero_apply (φ₁ := .bf16) (φ₂ := .bf16) dot_S256x256_S256x256_S256x256_1_1_0_0_n_n none _ _ _).trans ?_
  rw [← Equiv.sum_comp (contrEquiv1 dot_S256x256_S256x256_S256x256_1_1_0_0_n_n 256 rfl rfl).symm]
  refine Finset.sum_congr rfl fun k _ => congrArg₂ (· * ·) ?_ (congrArg xb ?_)
  · rw [← shapeCast_1ab_ab_apply db shapeCasts_S1x256x256_S256x256]
    refine congrArg _ ?_
    funext b
    match b with | ⟨0, _⟩ => rfl | ⟨1, _⟩ => rfl
  · funext b
    match b with | ⟨0, _⟩ => rfl | ⟨1, _⟩ => rfl

/-- The largest magnitude of a row group. -/
theorem rowMax_at (p : Fin 8) (r : Fin 256) : rowMax xb db a (ix2 p r)
    = (gmax fun l => mag (k0_pay3 xb db (ix3 p l r))) * k0_pay27 a (ix2 r 0) := by
  unfold rowMax k0_pay4
  rw [mulf_apply, row_of_1, pay28_at]
  exact congrArg₂ (· * ·) (max_group _ _ _ _ p r) rfl

/-- The code at column `grow p l` of row `r`. -/
theorem rowCodes_at (p : Fin 8) (l : Fin 32) (r : Fin 256) : rowCodes xb db a (ix2 r (grow p l))
    = clip (k0_pay3 xb db (ix3 p l r) * (invOf (rowMax xb db a (ix2 p r)) * k0_pay27 a (ix2 r 0))) := by
  unfold rowCodes k0_pay11
  rw [transpose_ix2_apply, cast_ungroup, ← pay28_at, ← row_of_1 (k0_pay28 a) p r, ← rowMul_at]
  exact congrArg clip (congrArg₂ (· * ·) rfl (spread _ p l r))

end
end
end Cert.KernelIdeal.Hand
-- ==== Proof.Spec.lean ====
module
public import proofs.«01_k».proof.Proof.Entries
public import Mathlib.Data.EReal.Inv
public import Mathlib.Algebra.BigOperators.Fin
public section
/-!
# The five results as functions of the inputs

`X r k` is row `r`, column `k` of the input, `G k` the gain of column `k`.  The definitions at the end are what both
programs are shown to compute; before them, the few laws of magnitudes and maxima that relate the kernel's order of
multiplications to the reference's.
-/
set_option maxRecDepth 16384
namespace Cert.Quant
open Idealize.ShloMosaic
noncomputable section
@[expose] public section

theorem mag_nonneg (x : EReal) : 0 ≤ mag x := by
  rcases le_total 0 x with h | h
  · exact h.trans (le_max_left _ _)
  · exact (EReal.neg_nonneg.2 h).trans (le_max_right _ _)

theorem mag_of_nonneg {x : EReal} (h : 0 ≤ x) : mag x = x :=
  max_eq_left ((EReal.neg_le_zero.2 h).trans h)

theorem mag_neg (x : EReal) : mag (-x) = mag x := by
  unfold mag; rw [neg_neg, max_comm]

theorem mag_mul_of_nonneg (x : EReal) {s : EReal} (h : 0 ≤ s) : mag (x * s) = mag x * s := by
  unfold mag
  rw [← EReal.neg_mul]
  rcases le_total x (-x) with h1 | h1
  · rw [max_eq_right h1, max_eq_right (mul_le_mul_of_nonneg_right h1 h)]
  · rw [max_eq_left h1, max_eq_left (mul_le_mul_of_nonneg_right h1 h)]

theorem mag_mul (x y : EReal) : mag (x * y) = mag x * mag y := by
  rcases le_total 0 y with h | h
  · rw [mag_mul_of_nonneg x h, mag_of_nonneg h]
  · have h' : 0 ≤ -y := EReal.neg_nonneg.2 h
    rw [← mag_neg y, mag_of_nonneg h', ← mag_mul_of_nonneg x h', ← mag_neg (x * -y)]
    congr 1
    rw [mul_comm x (-y), ← EReal.neg_mul, neg_neg, mul_comm]

theorem gmax_nonneg {f : Fin 32 → EReal} (h : ∀ l, 0 ≤ f l) : 0 ≤ gmax f :=
  (h 0).trans (Finset.le_sup (f := f) (Finset.mem_univ 0))

/-- A factor that is not negative moves into a maximum. -/
theorem gmax_mul (f : Fin 32 → EReal) {s : EReal} (h : 0 ≤ s) : gmax f * s = gmax fun l => f l * s := by
  apply le_antisymm
  · obtain ⟨i, _, hi⟩ := Finset.exists_mem_eq_sup Finset.univ Finset.univ_nonempty f
    show Finset.sup Finset.univ f * s ≤ _
    rw [hi]
    exact Finset.le_sup (f := fun l => f l * s) (Finset.mem_univ i)
  · exact Finset.sup_le fun i _ => mul_le_mul_of_nonneg_right (Finset.le_sup (f := f) (Finset.mem_univ i)) h

theorem sq_nonneg' (x : EReal) : 0 ≤ x * x := by
  rcases le_total 0 x with h | h
  · exact mul_nonneg h h
  · have := mul_nonneg (EReal.neg_nonneg.2 h) (EReal.neg_nonneg.2 h)
    rwa [EReal.neg_mul, mul_comm, EReal.neg_mul, neg_neg] at this

theorem rsqrt_nonneg {y : EReal} (h : 0 ≤ y) : 0 ≤ Ideal.rsqrt y := by
  induction y with
  | bot => exact absurd h (by simp)
  | top => exact le_refl (0 : EReal)
  | coe r =>
    have hr : 0 ≤ r := EReal.coe_nonneg.1 h
    show 0 ≤ (if r < 0 then ⊥ else if r = 0 then ⊤ else (((Real.sqrt r)⁻¹ : ℝ) : EReal))
    rw [if_neg (not_lt.2 hr)]
    split
    · exact le_top
    · exact EReal.coe_nonneg.2 (inv_nonneg.2 (Real.sqrt_nonneg r))

theorem ofBits_pos (n : ℕ) (h : n < 2139095040) : 0 ≤ Ideal.ofBits .f32 (BitVec.ofNat 32 n) := by
  have := val_mono (Nat.zero_le n) h.le
  rwa [val_zero] at this

theorem rms_nonneg {s : EReal} (h : 0 ≤ s) : 0 ≤ rms s :=
  rsqrt_nonneg (add_nonneg (mul_nonneg h (ofBits_pos 0x39000000 (by norm_num))) (ofBits_pos 0x3727C5AC (by norm_num)))

/-- The scale, and its inverse, as powers of two. -/
def sc (a : EReal) : EReal := (((2 : ℝ) ^ (expo a) : ℝ) : EReal)
def isc (a : EReal) : EReal := (((2 : ℝ) ^ (-expo a) : ℝ) : EReal)

section
variable (X : Fin 9216 → Fin 8192 → EReal) (G : Fin 8192 → EReal)

/-- The reciprocal root mean square of a row. -/
def sig (r : Fin 9216) : EReal := rms (∑ k : Fin 8192, X r k * X r k)
/-- The normalised entry. -/
def nrm (r : Fin 9216) (k : Fin 8192) : EReal := X r k * sig X r * G k
/-- The largest magnitude of row group `q` of row `r`. -/
def rmx (r : Fin 9216) (q : Fin 256) : EReal := gmax fun l => mag (nrm X G r ⟨32 * q.val + l.val, by omega⟩)
/-- The largest magnitude of column group `q` of column `n`. -/
def cmx (n : Fin 8192) (q : Fin 288) : EReal := gmax fun l => mag (nrm X G ⟨32 * q.val + l.val, by omega⟩ n)
/-- The five results. -/
def rowCode (r : Fin 9216) (n : Fin 8192) : EReal := clip (nrm X G r n * isc (rmx X G r ⟨n.val / 32, by omega⟩))
def rowScale (r : Fin 9216) (q : Fin 256) : EReal := sc (rmx X G r q)
def colCode (n : Fin 8192) (r : Fin 9216) : EReal := clip (nrm X G r n * isc (cmx X G n ⟨r.val / 32, by omega⟩))
def colScale (n : Fin 8192) (q : Fin 288) : EReal := sc (cmx X G n q)

theorem sig_nonneg (r : Fin 9216) : 0 ≤ sig X r := rms_nonneg (Finset.sum_nonneg fun k _ => sq_nonneg' _)
theorem rmx_nonneg (r : Fin 9216) (q : Fin 256) : 0 ≤ rmx X G r q := gmax_nonneg fun _ => mag_nonneg _
theorem cmx_nonneg (n : Fin 8192) (q : Fin 288) : 0 ≤ cmx X G n q := gmax_nonneg fun _ => mag_nonneg _
end

/-- A sum over the columns, lane chunk by lane chunk. -/
theorem sum_chunks (f : Fin 8192 → EReal) :
    ∑ l : Fin 128, ∑ k : Fin 64, f ⟨128 * k.val + l.val, by omega⟩ = ∑ n : Fin 8192, f n := by
  rw [Finset.sum_comm, ← Fintype.sum_prod_type']
  refine Fintype.sum_bijective (fun p : Fin 64 × Fin 128 => (⟨128 * p.1.val + p.2.val, by omega⟩ : Fin 8192)) ?_ _ _ fun _ => rfl
  constructor
  · rintro ⟨a, b⟩ ⟨c, d⟩ h
    have := congrArg Fin.val h
    simp only at this
    exact Prod.ext (Fin.ext (by simp only; omega)) (Fin.ext (by simp only; omega))
  · intro n
    exact ⟨(⟨n.val / 128, by omega⟩, ⟨n.val % 128, by omega⟩), Fin.ext (by simp only; omega)⟩
end
end
end Cert.Quant
-- ==== Proof.Block.lean ====
module
public import proofs.«01_k».proof.Proof.Spec
public import proofs.«01_k».proof.Proof.Trips
public section
/-!
# What a grid point leaves, as the results of its rows

The point's block holds rows `256 t`, …, `256 t + 255` of the input.
-/
set_option maxRecDepth 16384
namespace Cert.KernelIdeal.Hand
open Idealize.ShloMosaic Cert.KernelIdeal Cert.KernelIdeal.Gen Cert.Quant Idealize.ShloMosaic.ValueIdx
noncomputable section
@[expose] public section
/-- Row `r` of point `t`, and row group `p` of point `t`. -/
def gr (t : Fin 36) (r : Fin 256) : Fin 9216 := ⟨256 * t.val + r.val, by omega⟩
def gq (t : Fin 36) (p : Fin 8) : Fin 288 := ⟨8 * t.val + p.val, by omega⟩

variable (x : Vec Ideal S256x8192 .bf16) (g : Vec Ideal S1x8192 .bf16)

theorem t3_lt (k : Fin k0_t3_loop.trips) : k.val < 32 := Nat.lt_of_lt_of_eq k.isLt trips3
theorem t2_lt (k : Fin k0_t2_loop.trips) : k.val < 64 := Nat.lt_of_lt_of_eq k.isLt trips2

theorem ldx_at (k : Fin k0_t3_loop.trips) (r c : Fin 256) :
    ldx x k (ix2 r c) = x (ix2 r ⟨256 * k.val + c.val, by have := t3_lt k; omega⟩) := by
  unfold ldx
  rw [View.ld_unit]
  refine extractStridedSlice_apply _ _ _ _ _ fun b => ?_
  rw [show k0_off4 k b = _ from congrFun (off4_eq k) b]
  match b with | ⟨0, _⟩ => exact (Nat.zero_add _).symm | ⟨1, _⟩ => rfl

theorem ldg_at (k : Fin k0_t3_loop.trips) (c : Fin 256) :
    ldg g k (ix2 0 c) = g (ix2 0 ⟨256 * k.val + c.val, by have := t3_lt k; omega⟩) := by
  unfold ldg
  rw [View.ld_unit]
  refine extractStridedSlice_apply _ _ _ _ _ fun b => ?_
  rw [show k0_off7 k b = _ from congrFun (off7_eq k) b]
  match b with | ⟨0, _⟩ => rfl | ⟨1, _⟩ => rfl

theorem dg_at (k : Fin 32) (i j : Fin 256) :
    dgArr g (ix3 k i j) = if i = j then g (ix2 0 ⟨256 * k.val + j.val, by omega⟩) else 0 := by
  unfold dgArr
  refine Eq.trans (congrArg _ (show _ = ix3 0 i j from ?_)) ((pay24_at _ i j).trans ?_)
  · funext b; match b with | ⟨0, _⟩ => rfl | ⟨1, _⟩ => rfl | ⟨2, _⟩ => rfl
  · congr 1
    rw [View.ld_unit]
    refine extractStridedSlice_apply _ _ _ _ _ fun b => ?_
    rw [show k0_off1 _ b = _ from congrFun (off1_eq _) b]
    match b with | ⟨0, _⟩ => rfl | ⟨1, _⟩ => rfl

theorem ldd_at (k : Fin k0_t3_loop.trips) (i j : Fin 256) :
    ldd (dgArr g) k (ix3 0 i j) = if i = j then g (ix2 0 ⟨256 * k.val + j.val, by have := t3_lt k; omega⟩) else 0 := by
  unfold ldd
  rw [View.ld_unit, ← dg_at g ⟨k.val, t3_lt k⟩ i j]
  refine extractStridedSlice_apply _ _ _ _ _ fun b => ?_
  rw [show k0_off5 k b = _ from congrFun (off5_eq k) b]
  match b with | ⟨0, _⟩ => rfl | ⟨1, _⟩ => exact (Nat.zero_add _).symm | ⟨2, _⟩ => exact (Nat.zero_add _).symm

/-- The product with a diagonal matrix is the rows times the gains. -/
theorem prod_at (k : Fin k0_t3_loop.trips) (p : Fin 8) (l : Fin 32) (r : Fin 256) :
    k0_pay3 (ldx x k) (ldd (dgArr g) k) (ix3 p l r)
      = ldg g k (ix2 0 (grow p l)) * ldx x k (ix2 r (grow p l)) := by
  rw [pay3_at, Finset.sum_eq_single (grow p l)]
  · rw [ldd_at, if_pos rfl, ldg_at]
  · intro j _ hj
    rw [ldd_at, if_neg (Ne.symm hj), zero_mul]
  · intro h; exact absurd (Finset.mem_univ _) h

/-- The partial sums of squares. -/
theorem accN_at (r : Fin 256) (l : Fin 128) (n : ℕ) (hn : n ≤ 64) : accN x n (ix2 r l)
    = ∑ k : Fin n, x (ix2 r ⟨128 * k.val + l.val, by omega⟩) * x (ix2 r ⟨128 * k.val + l.val, by omega⟩) := by
  induction n with
  | zero => rw [Finset.univ_eq_empty, Finset.sum_empty]; exact ofBits_zero
  | succ n ih =>
    have h : n < k0_t2_loop.trips := by rw [trips2]; omega
    rw [accN.eq_2, dif_pos h, Fin.sum_univ_castSucc]
    unfold k0_pay26
    rw [addf_apply, ih (by omega), shapeCast_self]
    refine congrArg₂ (· + ·) rfl ?_
    have e : View.ld x (Rect.unit (s := S256x8192) (k0_off3 ⟨n, h⟩) S256x128.size (k0_off3_inb ⟨n, h⟩)) (ix2 r l)
        = x (ix2 r ⟨128 * n + l.val, by omega⟩) := by
      rw [View.ld_unit]
      refine extractStridedSlice_apply _ _ _ _ _ fun b => ?_
      rw [show k0_off3 ⟨n, h⟩ b = _ from congrFun (off3_eq ⟨n, h⟩) b]
      match b with | ⟨0, _⟩ => exact (Nat.zero_add _).symm | ⟨1, _⟩ => rfl
    rw [mulf_apply]
    exact congrArg₂ (· * ·) e e

section
variable {X : Fin 9216 → Fin 8192 → EReal} {G : Fin 8192 → EReal} {t : Fin 36}
  (hx : ∀ (r : Fin 256) (k : Fin 8192), x (ix2 r k) = X (gr t r) k)
  (hg : ∀ k : Fin 8192, g (ix2 0 k) = G k)
include hx

theorem sig_at (r : Fin 256) : k0_pay27 (acc x) (ix2 r 0) = Cert.Quant.sig X (gr t r) := by
  rw [pay27_at]
  unfold Cert.Quant.sig
  rw [← sum_chunks]
  refine congrArg rms (Finset.sum_congr rfl fun l _ => ?_)
  unfold acc
  have e := accN_at x r l 64 le_rfl
  rw [trips2, e]
  exact Finset.sum_congr rfl fun k _ => by rw [hx]

include hg

theorem rowMax_eq (k : Fin k0_t3_loop.trips) (p : Fin 8) (r : Fin 256) :
    rowMax (ldx x k) (ldd (dgArr g) k) (acc x) (ix2 p r)
      = rmx X G (gr t r) ⟨8 * k.val + p.val, by have := t3_lt k; omega⟩ := by
  have hk := t3_lt k
  rw [rowMax_at, sig_at x hx, gmax_mul _ (sig_nonneg X _)]
  unfold rmx
  refine congrArg gmax (funext fun l => ?_)
  rw [← mag_mul_of_nonneg _ (sig_nonneg X _), prod_at, ldg_at, ldx_at, hx, hg]
  unfold nrm
  have e : (⟨256 * k.val + (grow p l).val, by have := (grow p l).isLt; omega⟩ : Fin 8192) = ⟨32 * (8 * k.val + p.val) + l.val, by omega⟩ :=
    Fin.ext (by show 256 * k.val + (32 * p.val + l.val) = 32 * (8 * k.val + p.val) + l.val; omega)
  rw [e]
  congr 1
  rw [mul_assoc, mul_comm (G _)]

theorem colMax_eq (k : Fin k0_t3_loop.trips) (p : Fin 8) (c : Fin 256) :
    colMax (ldx x k) (ldg g k) (acc x) (ix2 p c)
      = cmx X G ⟨256 * k.val + c.val, by have := t3_lt k; omega⟩ (gq t p) := by
  have hk := t3_lt k
  rw [colMax_at, gmax_mul _ (mag_nonneg _)]
  unfold cmx
  refine congrArg gmax (funext fun l => ?_)
  rw [← mag_mul, sig_at x hx, ldg_at, ldx_at, hx, hg]
  unfold nrm
  have e : gr t (grow p l) = ⟨32 * (8 * t.val + p.val) + l.val, by omega⟩ :=
    Fin.ext (by show 256 * t.val + (32 * p.val + l.val) = 32 * (8 * t.val + p.val) + l.val; omega)
  rw [e]
  rfl

theorem rsc_at (q r : Fin 256) : rscArr x (dgArr g) (ix2 q r) = Cert.Quant.rowScale X G (gr t r) q := by
  have hq := q.isLt
  unfold rscArr Cert.Quant.rowScale
  refine Eq.trans (congrArg _ (show _ = ix2 (⟨q.val % 8, by omega⟩ : Fin 8) r from ?_)) ((rowScale_at _ _ _ _).trans ?_)
  · funext b; match b with | ⟨0, _⟩ => rfl | ⟨1, _⟩ => rfl
  · rw [rowMax_eq x g hx hg, scale_eq (rmx_nonneg X G _ _)]
    have e : ∀ h, (⟨8 * (q.val / 8) + q.val % 8, h⟩ : Fin 256) = q := fun h => Fin.ext (by show 8 * (q.val / 8) + q.val % 8 = q.val; omega)
    exact congrArg (fun z => sc (rmx X G (gr t r) z)) (e (by have := q.isLt; omega))

theorem rc_at (r : Fin 256) (n : Fin 8192) : rcArr x (dgArr g) (ix2 r n) = rowCode X G (gr t r) n := by
  have hn := n.isLt
  have h1 : n.val % 256 / 32 < 8 := by omega
  have h2 : n.val % 32 < 32 := by omega
  unfold rcArr rowCode
  set k : Fin k0_t3_loop.trips := chunkOf n.val n.isLt with hk
  have hkv : k.val = n.val / 256 := rfl
  refine Eq.trans (congrArg _ (show _ = ix2 r (grow ⟨n.val % 256 / 32, h1⟩ ⟨n.val % 32, h2⟩) from ?_)) ((rowCodes_at _ _ _ _ _ _).trans ?_)
  · funext b
    match b with
    | ⟨0, _⟩ => rfl
    | ⟨1, _⟩ => exact Fin.ext (by show n.val % 256 = 32 * (n.val % 256 / 32) + n.val % 32; omega)
  · show clip (k0_pay3 (ldx x k) (ldd (dgArr g) k) _ * (invOf (rowMax (ldx x k) (ldd (dgArr g) k) (acc x) _) * _)) = _
    rw [rowMax_eq x g hx hg, inv_eq (rmx_nonneg X G _ _), prod_at, ldg_at, ldx_at, hx, hg, sig_at x hx]
    have e : ∀ h, (⟨256 * k.val + (grow ⟨n.val % 256 / 32, h1⟩ ⟨n.val % 32, h2⟩).val, h⟩ : Fin 8192) = n := fun h =>
      Fin.ext (by show 256 * (n.val / 256) + (32 * (n.val % 256 / 32) + n.val % 32) = n.val; omega)
    have e' : ∀ h, (⟨8 * k.val + n.val % 256 / 32, h⟩ : Fin 256) = ⟨n.val / 32, by omega⟩ := fun h =>
      Fin.ext (by show 8 * (n.val / 256) + n.val % 256 / 32 = n.val / 32; omega)
    rw [e, e']
    unfold nrm isc
    congr 1
    ac_rfl

theorem cc_at (n : Fin 8192) (r : Fin 256) : ccArr x g (ix2 n r) = colCode X G n (gr t r) := by
  have hn := n.isLt
  have hr := r.isLt
  unfold ccArr colCode
  set k : Fin k0_t3_loop.trips := chunkOf n.val n.isLt with hk
  have hkv : k.val = n.val / 256 := rfl
  refine Eq.trans (congrArg _ (show _ = ix2 (⟨n.val % 256, by omega⟩ : Fin 256) (grow ⟨r.val / 32, by omega⟩ ⟨r.val % 32, by omega⟩) from ?_)) ((colCodes_at _ _ _ _ _ _).trans ?_)
  · funext b
    match b with
    | ⟨0, _⟩ => rfl
    | ⟨1, _⟩ => exact Fin.ext (by show r.val = 32 * (r.val / 32) + r.val % 32; omega)
  · show clip (ldx x k _ * _ * (invOf (colMax (ldx x k) (ldg g k) (acc x) _) * ldg g k _)) = _
    have e1 : grow ⟨r.val / 32, by omega⟩ ⟨r.val % 32, by omega⟩ = r :=
      Fin.ext (by show 32 * (r.val / 32) + r.val % 32 = r.val; omega)
    rw [colMax_eq x g hx hg, inv_eq (cmx_nonneg X G _ _), ldg_at, ldx_at, e1, hx, hg, sig_at x hx]
    have e : ∀ h, (⟨256 * k.val + n.val % 256, h⟩ : Fin 8192) = n := fun h =>
      Fin.ext (by show 256 * (n.val / 256) + n.val % 256 = n.val; omega)
    have e' : gq t ⟨r.val / 32, by omega⟩ = ⟨(gr t r).val / 32, by have := (gr t r).isLt; omega⟩ :=
      Fin.ext (by show 8 * t.val + r.val / 32 = (256 * t.val + r.val) / 32; omega)
    rw [e, e']
    unfold nrm isc
    congr 1
    ac_rfl

theorem csc_at (p : Fin 8) (n : Fin 8192) : cscRow x g p n = Cert.Quant.colScale X G n (gq t p) := by
  have hn := n.isLt
  unfold cscRow Cert.Quant.colScale
  refine Eq.trans (congrArg _ (show _ = ix2 p (⟨n.val % 256, by omega⟩ : Fin 256) from ?_)) ((colScale_at _ _ _ _).trans ?_)
  · funext b; match b with | ⟨0, _⟩ => rfl | ⟨1, _⟩ => rfl
  · rw [colMax_eq x g hx hg, scale_eq (cmx_nonneg X G _ _)]
    have e : ∀ h, (⟨256 * (n.val / 256) + n.val % 256, h⟩ : Fin 8192) = n := fun h =>
      Fin.ext (by show 256 * (n.val / 256) + n.val % 256 = n.val; omega)
    exact congrArg (fun z => sc (cmx X G z (gq t p))) (e (by have := n.isLt; omega))
end
end
end
end Cert.KernelIdeal.Hand
-- ==== Proof.Final.lean ====
module
public import proofs.«01_k».proof.Proof.Block
public import proofs.«01_k».proof.Proof.Body
public import Idealize.ShloMosaic.Lib.Pipeline.ValueKit.Geometry
public section
/-!
# The kernel's result arrays

Every result of the kernel as a function of its two arguments: the blocks its points write back, put together.
-/
set_option maxRecDepth 16384
namespace Cert.KernelIdeal.Hand
open Idealize.ShloMosaic Idealize.ShloMosaic.TcCoe Idealize.SL.Sem Cert.KernelIdeal Cert.KernelIdeal.Gen Cert.Quant Idealize.ShloMosaic.ValueIdx
noncomputable section
@[expose] public section

/-- The rows of the first argument. -/
def rowsOf (a : Vec Ideal S9x1024x8192 .bf16) (r : Fin 9216) (k : Fin 8192) : EReal :=
  (shapeCast S9216x8192 a shapeCasts_S9x1024x8192_S9216x8192 : Vec Ideal S9216x8192 .bf16) (ix2 r k)
/-- The entries of the second argument. -/
def gainOf (b : Vec Ideal S8192 .bf16) (k : Fin 8192) : EReal := b (ix1 k)

variable (m : (ℓ : Loc nD τ sig) → Buf (Elt Ideal) ℓ) (c : Dev nD)

theorem V_v0 : V m c main_v0 = (shapeCast S9216x8192 (m ((c : Thread nD τ).loc main_arg0)) shapeCasts_S9x1024x8192_S9216x8192 : Vec Ideal S9216x8192 .bf16) := by
  show StableHlo.after (List.flatten [hostOps0]) (fun b => m (c, b)) (Proc.devRef .tc main_v0) = _
  simp only [hostOps0, List.flatten_cons, List.flatten_nil, List.append_nil, List.cons_append, List.nil_append]
  after_results_simp
  rfl

theorem V_v1 : V m c main_v1 = (shapeCast S1x8192 (m ((c : Thread nD τ).loc main_arg1)) shapeCasts_S8192_S1x8192 : Vec Ideal S1x8192 .bf16) := by
  show StableHlo.after (List.flatten [hostOps0]) (fun b => m (c, b)) (Proc.devRef .tc main_v1) = _
  simp only [hostOps0, List.flatten_cons, List.flatten_nil, List.append_nil, List.cons_append, List.nil_append]
  after_results_simp
  rfl

abbrev Xm : Fin 9216 → Fin 8192 → EReal := rowsOf (m ((c : Thread nD τ).loc main_arg0))
abbrev Gm : Fin 8192 → EReal := gainOf (m ((c : Thread nD τ).loc main_arg1))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val / 16] := (by decide +kernel : ∀ t : Fin grid0.N, _)
theorem idx6 : ∀ t : Fin cfg0.N, win0_6.index t = ![t.val, 0, 0] := (by decide +kernel : ∀ t : Fin grid0.N, _)
theorem fl5 : ∀ t : Fin cfg0.N, win0_5.flush t = true → t.val = 15 ∨ t.val = 31 ∨ t.val = 35 := (by decide +kernel : ∀ t : Fin grid0.N, _)
theorem cov2 : win0_2.Covers := by decide +kernel
theorem cov3 : win0_3.Covers := by decide +kernel
theorem cov4 : win0_4.Covers := by decide +kernel
theorem cov5 : win0_5.Covers := by decide +kernel
theorem cov6 : win0_6.Covers := by decide +kernel
theorem N36 : cfg0.N = 36 := by decide +kernel

theorem xAt_at (t : Fin cfg0.N) (r : Fin 256) (k : Fin 8192) :
    xAt m c t (ix2 r k) = Xm m c ⟨256 * t.val + r.val, by have := t.isLt.trans_eq N36; omega⟩ k := by
  show V m c main_v0 ((win0_0.blk t).view.emb (ix2 r k)) = _
  rw [V_v0]
  unfold Xm rowsOf
  refine congrArg _ ?_
  funext a; apply Fin.ext
  match a with
  | ⟨0, _⟩ => blk_simp [idx0]; show t.val * 256 + r.val = 256 * t.val + r.val; omega
  | ⟨1, _⟩ => blk_simp [idx0]

theorem gAt_at (t : Fin cfg0.N) (k : Fin 8192) : gAt m c t (ix2 0 k) = Gm m c k := by
  show V m c main_v1 ((win0_1.blk t).view.emb (ix2 0 k)) = _
  rw [V_v1]
  unfold Gm gainOf
  refine (congrArg _ (show _ = ix2 0 k from ?_)).trans (shapeCast_apply _ _ _ (ix1 k) ?_)
  · funext a; apply Fin.ext
    match a with
    | ⟨0, _⟩ => blk_simp [idx1]
    | ⟨1, _⟩ => blk_simp [idx1]
  · rw [Shape.rowMajor_val_one, Shape.rowMajor_val_two]; show k.val = 0 * 8192 + k.val; omega

/-- The row codes, the row scales, the column codes, the column scales and the reciprocal norms, as arrays. -/
def out2 : Vec Ideal S9216x8192 .fp8e4m3 := fun i => rowCode (Xm m c) (Gm m c) (i 0) (i 1)
def out3 : Vec Ideal S9216x256 .f32 := fun i => Cert.Quant.rowScale (Xm m c) (Gm m c) (i 0) (i 1)
def out4 : Vec Ideal S8192x9216 .fp8e4m3 := fun i => colCode (Xm m c) (Gm m c) (i 0) (i 1)
def out5 : Vec Ideal S8192x288 .f32 := fun i => Cert.Quant.colScale (Xm m c) (Gm m c) (i 0) (i 1)
def out6 : Vec Ideal S36x1x256 .f32 := fun i => Cert.Quant.sig (Xm m c) ⟨256 * (i 0).val + (i 2).val, by
  have h0 : (i 0).val < 36 := (i 0).isLt; have h2 : (i 2).val < 256 := (i 2).isLt; omega⟩
def outR : Vec Ideal S9216 .f32 := fun i => Cert.Quant.sig (Xm m c) (i 0)

def pt (t : Fin cfg0.N) : Fin 36 := ⟨t.val, t.isLt.trans_eq N36⟩

theorem xa (t : Fin cfg0.N) (r : Fin 256) (k : Fin 8192) :
    xAt m c t (ix2 r k) = Xm m c (gr (pt t) r) k := xAt_at m c t r k

theorem at2 (t : Fin cfg0.N) (y : S256x8192.Idx) : rcArr (xAt m c t) (dgArr (gAt m c (ptOf 0))) y
    = rowCode (Xm m c) (Gm m c) (gr (pt t) (y 0)) (y 1) :=
  (congrArg _ (eq_ix2 y)).trans (rc_at (t := pt t) _ _ (xa m c t) (gAt_at m c _) (y 0) (y 1))

theorem at3 (t : Fin cfg0.N) (y : S256x256.Idx) : k0_pay32 (rscArr (xAt m c t) (dgArr (gAt m c (ptOf 0)))) y
    = Cert.Quant.rowScale (Xm m c) (Gm m c) (gr (pt t) (y 0)) (y 1) :=
  (congrArg _ (eq_ix2 y)).trans ((pay32_at _ (y 0) (y 1)).trans (rsc_at (t := pt t) _ _ (xa m c t) (gAt_at m c _) (y 1) (y 0)))

theorem at4 (t : Fin cfg0.N) (y : S8192x256.Idx) : ccArr (xAt m c t) (gAt m c t) y
    = colCode (Xm m c) (Gm m c) (y 0) (gr (pt t) (y 1)) :=
  (congrArg _ (eq_ix2 y)).trans (cc_at (t := pt t) _ _ (xa m c t) (gAt_at m c _) (y 0) (y 1))

theorem at6 (t : Fin cfg0.N) (y : S1x1x256.Idx) : k0_pay29 (acc (xAt m c t)) y
    = Cert.Quant.sig (Xm m c) (gr (pt t) (y 2)) := by
  have h0 : (y 0).val < 1 := (y 0).isLt
  have h1 : (y 1).val < 1 := (y 1).isLt
  have e : y = ix3 0 0 (y 2) := by
    funext a
    match a with
    | ⟨0, _⟩ => exact Fin.ext (by show (y 0).val = 0; omega)
    | ⟨1, _⟩ => exact Fin.ext (by show (y 1).val = 0; omega)
    | ⟨2, _⟩ => rfl
  exact (congrArg _ e).trans ((pay29_at _ (y 2)).trans (sig_at (t := pt t) _ (xa m c t) (y 2)))

theorem final2 : (dats m 0 c).arrAt 2 cfg0.N = out2 m c := by
  refine (dats m 0 c).arrAt_eq_of_covers 2 _ cov2 fun t hf y => ?_
  blk_simp
  refine (at2 m c t y).trans ?_
  refine congrArg₂ (rowCode (Xm m c) (Gm m c)) ?_ ?_ <;> apply Fin.ext
  · blk_simp [idx2]; show 256 * t.val + (y 0).val = t.val * 256 + (y 0).val; omega
  · blk_simp [idx2]

theorem after3 (t : Fin cfg0.N) : (dats m 0 c).after 3 t = k0_pay32 (rscArr (xAt m c t) (dgArr (gAt m c (ptOf 0)))) := by
  dsimp only [dats, dgAt]

theorem final3 : (dats m 0 c).arrAt 3 cfg0.N = out3 m c := by
  refine (dats m 0 c).arrAt_eq_of_covers 3 _ cov3 fun t hf y => ?_
  refine (cast_eq _ _).trans ?_
  rw [after3]
  refine (at3 m c t _).trans ?_
  refine congrArg₂ (Cert.Quant.rowScale (Xm m c) (Gm m c)) ?_ ?_ <;> apply Fin.ext
  · blk_simp [idx3]; show 256 * t.val + (y 0).val = t.val * 256 + (y 0).val; omega
  · blk_simp [idx3]

theorem final4 : (dats m 0 c).arrAt 4 cfg0.N = out4 m c := by
  refine (dats m 0 c).arrAt_eq_of_covers 4 _ cov4 fun t hf y => ?_
  blk_simp
  refine (at4 m c t y).trans ?_
  refine congrArg₂ (colCode (Xm m c) (Gm m c)) ?_ ?_ <;> apply Fin.ext
  · blk_simp [idx4]
  · blk_simp [idx4]; show 256 * t.val + (y 1).val = t.val * 256 + (y 1).val; omega

theorem final6 : (dats m 0 c).arrAt 6 cfg0.N = out6 m c := by
  refine (dats m 0 c).arrAt_eq_of_covers 6 _ cov6 fun t hf y => ?_
  blk_simp
  refine (at6 m c t y).trans ?_
  refine congrArg (Cert.Quant.sig (Xm m c)) (Fin.ext ?_)
  blk_simp [idx6]
  rfl
theorem at5 (t : Fin cfg0.N) (h : t.val = 15 ∨ t.val = 31 ∨ t.val = 35) (z : S8192x128.Idx) (i : Fin 288) (hi : i.val = t.val / 16 * 128 + (z 1).val) :
    csArr (tblN m c (t.val + 1)) z = Cert.Quant.colScale (Xm m c) (Gm m c) (z 0) i := by
  have hz : (z 1).val < 128 := (z 1).isLt
  have hl : latest (t.val + 1) ((z 1).val / 8) < 36 := by unfold latest; omega
  refine (csc_at (t := pt (ptOf (latest (t.val + 1) ((z 1).val / 8)))) _ _ (xa m c _) (gAt_at m c _) ⟨(z 1).val % 8, Nat.mod_lt _ (by decide)⟩ (z 0)).trans ?_
  refine congrArg _ (Fin.ext ?_)
  have hv : (pt (ptOf (latest (t.val + 1) ((z 1).val / 8)))).val = latest (t.val + 1) ((z 1).val / 8) := Nat.min_eq_left (by omega)
  show 8 * (pt (ptOf (latest (t.val + 1) ((z 1).val / 8)))).val + (z 1).val % 8 = i.val
  rw [hv, hi]
  unfold latest
  omega

/-- The column scales: points 16 b, …, 16 b + 15 fill block `b`, which the last of them (or the last point) writes back. -/
theorem final5 : (dats m 0 c).arrAt 5 cfg0.N = out5 m c := by
  refine (dats m 0 c).arrAt_eq_of_covers 5 _ cov5 fun t hf y => ?_
  refine (cast_eq _ _).trans ?_
  rw [after5]
  refine (at5 m c t (fl5 t hf) _ (((cfg0.win 5).blk t).view.emb y 1) ?_).trans ?_
  · blk_simp [idx5]
  · refine congrArg₂ (Cert.Quant.colScale (Xm m c) (Gm m c)) ?_ rfl
    apply Fin.ext
    blk_simp [idx5]
end
end
end Cert.KernelIdeal.Hand
-- ==== Proof.KernelRun.lean ====
module
public import proofs.«01_k».proof.Proof.Final
public section
/-!
# The kernel's run, with its five results
-/
set_option maxRecDepth 16384
namespace Cert.KernelIdeal.Hand
open Idealize.ShloMosaic Idealize.ShloMosaic.TcCoe Idealize.SL.Sem Cert.KernelIdeal Cert.KernelIdeal.Gen Cert.Quant Idealize.ShloMosaic.ValueIdx
noncomputable section
@[expose] public section
variable (m : (ℓ : Loc nD τ sig) → Buf (Elt Ideal) ℓ) (ρ : Dev nD → PrngReg)

/-- The reshape after the region, of the array the region leaves. -/
theorem tail_v3 (c : Dev nD) : Pipeline.afterTail₀ cfgs (dats m) 0 (V0 m) [hostOps1] c main_v3 = outR m c := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc main_v2_4) = out6 m c :=
    (Pipeline.withArrays_arr spec0 launch0.win.arr_inj c (V0 m c) (fun w => (dats m 0 c).arrAt w (cfgs 0).N) 6).trans (final6 m c)
  refine (show _ = (shapeCast S9216 (out6 m c) shapeCasts_S36x1x256_S9216 : Vec Ideal S9216 .f32) from ?_).trans ?_
  · rw [← e]; rfl
  · funext i
    have hi : (i 0).val < 9216 := (i 0).isLt
    refine (shapeCast_apply _ _ _ (ix3 (⟨(i 0).val / 256, by omega⟩ : Fin 36) (0 : Fin 1) (⟨(i 0).val % 256, by omega⟩ : Fin 256)) ?_).trans ?_
    · rw [Shape.rowMajor_val_one, Shape.rowMajor_val_three]
      show ((i 0).val / 256 * 1 + 0) * 256 + (i 0).val % 256 = (i 0).val
      omega
    · unfold out6 outR
      refine congrArg _ (Fin.ext ?_)
      show 256 * ((i 0).val / 256) + (i 0).val % 256 = (i 0).val
      omega

theorem run_values : θ_run defs (onTc (τ := τ) (main (F := Ideal))) ⟨m, fun _ => 0, ρ⟩ (fun r => ∀ c : Dev nD,
      r.2.mem ((c.tc : Thread nD τ).loc main_v2_0) = out2 m c
      ∧ r.2.mem ((c.tc : Thread nD τ).loc main_v2_1) = out3 m c
      ∧ r.2.mem ((c.tc : Thread nD τ).loc main_v2_2) = out4 m c
      ∧ r.2.mem ((c.tc : Thread nD τ).loc main_v2_3) = out5 m c
      ∧ r.2.mem ((c.tc : Thread nD τ).loc main_v3) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final2 m c), ((h.1 c).1 3).trans (final3 m c), ((h.1 c).1 4).trans (final4 m c),
      ((h.1 c).1 5).trans (final5 m c),
      ((h.1 c).2 main_v3 (Pipeline.mem_restRefs_of main_v3 (by decide) (by decide))).trans (tail_v3 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩) (run_main m ρ)
end
end
end Cert.KernelIdeal.Hand
-- ==== Proof.RefCore.lean ====
module
public import proofs.«01_k».proof.Proof.Spec
public import Idealize.ShloMosaic.Lib.KernelVsHost
public section
/-!
# The reference's operations at the ideal values

The host's powers of two, its division by the row length, its maxima and minima over one axis.
-/
set_option maxRecDepth 16384
namespace Cert.Quant
open Idealize.ShloMosaic Idealize.ShloMosaic.ValueIdx
noncomputable section
@[expose] public section

theorem ofBits_pinf : Ideal.ofBits .f32 0x7F800000#32 = ⊤ := by
  show Ideal.ieee 8 23 (0x7F800000#32 : BitVec 32) = ⊤; simp [Ideal.ieee]
theorem ofBits_two : Ideal.ofBits .f32 0x40000000#32 = ((2 : ℝ) : EReal) := by
  show Ideal.ieee 8 23 (0x40000000#32 : BitVec 32) = ((2 : ℝ) : EReal); simp [Ideal.ieee] <;> (rw [← EReal.coe_mul]; congr 1; norm_num)
theorem ofBits_120 : Ideal.ofBits .f32 0x42F00000#32 = ((120 : ℝ) : EReal) := by
  show Ideal.ieee 8 23 (0x42F00000#32 : BitVec 32) = ((120 : ℝ) : EReal); simp [Ideal.ieee] <;> (rw [← EReal.coe_mul]; congr 1; norm_num)
theorem ofBits_below : Ideal.ofBits .f32 0x43DFFFFF#32 = ((14680063 * (2 : ℝ) ^ (-15 : ℤ) : ℝ) : EReal) := by
  have h := val_thr (k := 0) (by norm_num) (by norm_num)
  rw [zpow_zero, mul_one] at h
  exact h

theorem pow_two (e : ℤ) : Ideal.pow (Ideal.ofBits .f32 0x40000000#32) (((e : ℤ) : ℝ) : EReal) = (((2 : ℝ) ^ e : ℝ) : EReal) := by
  rw [ofBits_two, Ideal.pow_coe_coe, Real.rpow_eq_pow, Real.rpow_intCast]

theorem pow_two_neg (e : ℤ) : Ideal.pow (Ideal.ofBits .f32 0x40000000#32) (-(((e : ℤ) : ℝ) : EReal)) = (((2 : ℝ) ^ (-e) : ℝ) : EReal) := by
  rw [← EReal.coe_neg, ← Int.cast_neg, pow_two]

theorem div_len (x : EReal) : Ideal.div x (Ideal.ofBits .f32 0x46000000#32) = x * Ideal.ofBits .f32 0x39000000#32 := by
  have h1 : Ideal.ofBits .f32 0x46000000#32 = ((8192 : ℝ) : EReal) := by
    show Ideal.ieee 8 23 (0x46000000#32 : BitVec 32) = ((8192 : ℝ) : EReal); simp [Ideal.ieee] <;> (rw [← EReal.coe_mul]; congr 1; norm_num)
  have h2 : Ideal.ofBits .f32 0x39000000#32 = ((8192⁻¹ : ℝ) : EReal) := by
    show Ideal.ieee 8 23 (0x39000000#32 : BitVec 32) = ((8192⁻¹ : ℝ) : EReal); simp [Ideal.ieee] <;> (rw [← EReal.coe_mul]; congr 1; norm_num)
  have h0 : ((8192 : ℝ) : EReal) ≠ 0 := by
    intro h; have := EReal.coe_eq_coe_iff.1 (h.trans EReal.coe_zero.symm); norm_num at this
  unfold Ideal.div
  rw [h1, h2, if_neg h0, EReal.coe_inv]

theorem max_axis {n q : ℕ} (x : FVec Ideal ⟨3, ![n, q, 32]⟩ .f32) (h' : (⟨3, ![n, q, 32]⟩ : Shape).ReducesTo [2] ⟨2, ![n, q]⟩)
    (h : (⟨3, ![n, q, 32]⟩ : Shape).Reduces [2] ⟨2, ![n, q]⟩) {u : Shape} (hu : 0 < u.numel) (a : Fin n) (b : Fin q) :
    Host.reduce FloatOps.maximumf x (constant u .f32 0xFF800000#32) h' hu (ix2 a b) = gmax fun l => x (ix3 a b l) := by
  refine (Host.reduce_eq_fold_single FloatOps.maximumf x (constant u .f32 0xFF800000#32) h' h hu (ix2 a b)).trans ?_
  show Finset.fold max (Ideal.ofBits .f32 0xFF800000#32) (x ∘ h.lift (ix2 a b)) Finset.univ = _
  rw [ofBits_ninf]
  refine congrArg (Finset.fold max ⊥ · Finset.univ) (funext fun l => congrArg x ?_)
  funext b
  match b with | ⟨0, _⟩ => rfl | ⟨1, _⟩ => rfl | ⟨2, _⟩ => rfl

theorem min_axis {n q : ℕ} (x : FVec Ideal ⟨3, ![n, q, 246]⟩ .f32) (h' : (⟨3, ![n, q, 246]⟩ : Shape).ReducesTo [2] ⟨2, ![n, q]⟩)
    (h : (⟨3, ![n, q, 246]⟩ : Shape).Reduces [2] ⟨2, ![n, q]⟩) {u : Shape} (hu : 0 < u.numel) (a : Fin n) (b : Fin q) :
    Host.reduce FloatOps.minimumf x (constant u .f32 0x7F800000#32) h' hu (ix2 a b)
      = Finset.univ.fold min ⊤ fun l : Fin 246 => x (ix3 a b l) := by
  refine (Host.reduce_eq_fold_single FloatOps.minimumf x (constant u .f32 0x7F800000#32) h' h hu (ix2 a b)).trans ?_
  show Finset.fold min (Ideal.ofBits .f32 0x7F800000#32) (x ∘ h.lift (ix2 a b)) Finset.univ = _
  rw [ofBits_pinf]
  refine congrArg (Finset.fold min ⊤ · Finset.univ) (funext fun l => congrArg x ?_)
  funext b
  match b with | ⟨0, _⟩ => rfl | ⟨1, _⟩ => rfl | ⟨2, _⟩ => rfl

theorem select_lt (x y a b : Ideal .f32) : Scalar.select (FloatOps.cmpf .olt x y) a b = if (x : EReal) < y then a else b := by
  show Scalar.select (BitVec.ofBool (decide ((x : EReal) < y))) a b = _
  by_cases h : (x : EReal) < y
  · rw [if_pos h, decide_eq_true h]; rfl
  · rw [if_neg h, decide_eq_false h]; rfl

theorem exps : ∀ i : Fin 246, (IntOp.addi 4294967171#32 (BitVec.ofNat 32 i.val)).toInt = (i.val : ℤ) - 125 := by decide +kernel

theorem exps_f (i : Fin 246) : (FloatOps.sitofp .f32 (IntOp.addi 4294967171#32 (BitVec.ofNat 32 i.val)) : Ideal .f32)
    = ((((i.val : ℤ) - 125 : ℤ) : ℝ) : EReal) := by
  rw [← exps i]; rfl

/-- The threshold of an exponent. -/
theorem thr_f (i : Fin 246) : (FloatOps.mulf (FloatOps.ofBits .f32 0x43DFFFFF#32 : Ideal .f32)
      (FloatOps.hostPowf (FloatOps.ofBits .f32 0x40000000#32) (FloatOps.sitofp .f32 (IntOp.addi 4294967171#32 (BitVec.ofNat 32 i.val)))))
    = (((14680063 * (2 : ℝ) ^ (-15 : ℤ)) * (2 : ℝ) ^ ((i.val : ℤ) - 125) : ℝ) : EReal) := by
  rw [exps_f, Ideal.mulf_def, Ideal.hostPowf_def, Ideal.ofBits_def, Ideal.ofBits_def, pow_two, ofBits_below, ← EReal.coe_mul]
end
end
end Cert.Quant
-- ==== Proof.Ref.lean ====
module
public import proofs.«01_k».proof.Proof.RefCore
public import proofs.«01_k».proof.Proof.Final
public import proofs.«01_k».proof.Proof.Gen.ReferenceIdeal.Read
public section
/-!
# The reference's results, entry by entry
-/
set_option maxRecDepth 16384
namespace Cert.RefValue
open Idealize.ShloMosaic Cert.ReferenceIdeal Cert.ReferenceIdeal.Gen Cert.ReferenceIdeal.Read Cert.Quant Idealize.ShloMosaic.ValueIdx
open Cert.KernelIdeal.Hand (rowsOf gainOf)
noncomputable section
@[expose] public section
variable (x0 : (⟨S9x1024x8192, .bf16⟩ : BufTy).Contents (Elt Ideal)) (x1 : (⟨S8192, .bf16⟩ : BufTy).Contents (Elt Ideal))

abbrev XX : Fin 9216 → Fin 8192 → EReal := rowsOf x0
abbrev GG : Fin 8192 → EReal := gainOf x1

/-- Entry `l` of group `q` of a row, and of a column. -/
def ck (q : Fin 256) (l : Fin 32) : Fin 8192 := ⟨32 * q.val + l.val, by omega⟩
def rk (q : Fin 288) (l : Fin 32) : Fin 9216 := ⟨32 * q.val + l.val, by omega⟩

theorem v1_at (r : Fin 9216) (k : Fin 8192) : val_main_v1 (F := Ideal) x0 (ix2 r k) = XX x0 r k := by
  rw [val_main_v1_apply]; rfl

theorem v8_at (r : Fin 9216) : val_main_v8 (F := Ideal) x0 (ix1 r) = Cert.Quant.sig (XX x0) r := by
  rw [val_main_v8_apply, val_main_v7_apply, val_main_v5_apply, val_main_v3_apply, val_main_v4_apply, val_main_v6_apply,
    val_main_cst_apply, val_main_cst_0_apply, val_main_cst_1_apply, Ideal.hostUnary_rsqrt_def, Ideal.hostDivf_def,
    Ideal.ofBits_def, Ideal.ofBits_def, Ideal.ofBits_def, div_len, ofBits_zero, zero_add]
  unfold Cert.Quant.sig rms
  refine congrArg Ideal.rsqrt (congrArg (· + _) (congrArg (· * _) (Finset.sum_congr rfl fun k _ => ?_)))
  rw [val_main_v2_apply]
  have e : idx_main_v3 (ix1 r) k = ix2 r k := by
    funext a; match a with | ⟨0, _⟩ => rfl | ⟨1, _⟩ => rfl
  rw [e, v1_at]; rfl

theorem v15_at (r : Fin 9216) (k : Fin 8192) : val_main_v15 (F := Ideal) x0 x1 (ix2 r k) = nrm (XX x0) (GG x1) r k := by
  rw [val_main_v15_apply, val_main_v11_apply, v1_at, val_main_v10_apply, val_main_v9_apply, val_main_v14_apply, val_main_v13_apply,
    val_main_v12_apply]
  have e : idx_main_v9 (idx_main_v10 (ix2 r k)) = ix1 r := by
    funext a; match a with | ⟨0, _⟩ => rfl
  have e' : idx_main_v13 (idx_main_v14 (ix2 r k)) = ix1 k := by
    funext a; match a with | ⟨0, _⟩ => rfl
  rw [e, e', v8_at]; rfl

theorem v16_at (r : Fin 9216) (q : Fin 256) (l : Fin 32) :
    val_main_v16 (F := Ideal) x0 x1 (ix3 r q l) = nrm (XX x0) (GG x1) r (ck q l) := by
  rw [val_main_v16_apply]
  refine (congrArg _ (show _ = ix2 r (ck q l) from ?_)).trans (v15_at x0 x1 r (ck q l))
  funext a; apply Fin.ext
  match a with
  | ⟨0, _⟩ => show ((r.val * 256 + q.val) * 32 + l.val) / 8192 = r.val; omega
  | ⟨1, _⟩ => show ((r.val * 256 + q.val) * 32 + l.val) % 8192 = 32 * q.val + l.val; omega

theorem v18_at (r : Fin 9216) (q : Fin 256) : val_main_v18 (F := Ideal) x0 x1 (ix2 r q) = rmx (XX x0) (GG x1) r q := by
  unfold val_main_v18
  refine (max_axis _ _ (by decide) _ r q).trans ?_
  unfold rmx
  refine congrArg gmax (funext fun l => ?_)
  rw [val_main_v17_apply, v16_at]; rfl

/-- The exponent, from the pieces of its computation. -/
theorem v36_at (r : Fin 9216) (q : Fin 256) :
    val_main_v36 (F := Ideal) x0 x1 (ix2 r q) = (((expo (rmx (XX x0) (GG x1) r q) : ℤ) : ℝ) : EReal) := by
  rw [← expo_ref (rmx_nonneg _ _ r q), val_main_v36_apply, val_main_v35_apply, select_lt, v18_at]
  unfold expoRef
  refine if_congr (Iff.of_eq (congrArg _ ?_)) ?_ ?_
  · rw [val_main_v34_apply, val_main_cst_7_apply]; rfl
  · rw [val_main_call1_v1_apply, val_main_call1_v0_apply, val_main_cst_8_apply]; exact ofBits_zero
  · unfold val_main_v33
    refine (min_axis _ _ (by decide) _ r q).trans ?_
    refine congrArg (Finset.fold min ⊤ · Finset.univ) (funext fun l => ?_)
    rw [val_main_v32_apply, val_main_v31_apply, select_lt, val_main_v29_apply, val_main_v23_apply, val_main_v30_apply, val_main_v28_apply,
      val_main_v27_apply, val_main_v26_apply, val_main_v25_apply, val_main_v24_apply, val_main_cst_4_apply, val_main_cst_3_apply,
      val_main_call0_v1_apply, val_main_call0_v2_apply, val_main_call0_v0_apply, val_main_cst_5_apply,
      val_main_v22_apply, val_main_v21_apply, val_main_v20_apply, val_main_v19_apply, val_main_c_apply]
    have e : idx_main_v23 (idx_main_v29 (ix3 r q l)) = ix2 r q := by
      funext a; match a with | ⟨0, _⟩ => rfl | ⟨1, _⟩ => rfl
    rw [e, v18_at]
    refine if_congr (Iff.of_eq (congrArg _ ?_)) ?_ ?_
    · exact thr_f l
    · exact exps_f l
    · exact ofBits_120

theorem v47_at (r : Fin 9216) (q : Fin 256) : val_main_v47 (F := Ideal) x0 x1 (ix2 r q) = Cert.Quant.rowScale (XX x0) (GG x1) r q := by
  rw [val_main_v47_apply, v36_at, val_main_v46_apply, val_main_cst_12_apply, Ideal.hostPowf_def, Ideal.ofBits_def, pow_two]; rfl

theorem v43_at (r : Fin 9216) (q : Fin 256) (l : Fin 32) : val_main_v43 (F := Ideal) x0 x1 (ix3 r q l)
    = clip (nrm (XX x0) (GG x1) r (ck q l) * isc (rmx (XX x0) (GG x1) r q)) := by
  rw [val_main_v43_apply, val_main_call2_v4_apply, val_main_call2_v3_apply, val_main_call2_v2_apply, val_main_call2_v1_apply, val_main_call2_v0_apply,
    val_main_cst_10_apply, val_main_cst_11_apply, val_main_v42_apply, v16_at, val_main_v41_apply, val_main_v40_apply, val_main_v39_apply,
    val_main_cst_9_apply, val_main_v38_apply, val_main_v37_apply]
  have e : idx_main_v37 (idx_main_v41 (ix3 r q l)) = ix2 r q := by
    funext a; match a with | ⟨0, _⟩ => rfl | ⟨1, _⟩ => rfl
  rw [e, v36_at, Ideal.hostPowf_def, Ideal.ofBits_def, Ideal.hostNegf_def]
  have h := pow_two_neg (expo (rmx (XX x0) (GG x1) r q))
  unfold clip isc
  rw [← h]; rfl

theorem v45_at (r : Fin 9216) (n : Fin 8192) : val_main_v45 (F := Ideal) x0 x1 (ix2 r n) = rowCode (XX x0) (GG x1) r n := by
  have hn := n.isLt
  rw [val_main_v45_apply, Ideal.hostConvertf_def, val_main_v44_apply]
  refine (congrArg _ (show _ = ix3 r (⟨n.val / 32, by omega⟩ : Fin 256) (⟨n.val % 32, by omega⟩ : Fin 32) from ?_)).trans ((v43_at x0 x1 _ _ _).trans ?_)
  · funext a; apply Fin.ext
    match a with
    | ⟨0, _⟩ => show (r.val * 8192 + n.val) / 8192 = r.val; omega
    | ⟨1, _⟩ => show (r.val * 8192 + n.val) / 32 % 256 = n.val / 32; omega
    | ⟨2, _⟩ => show (r.val * 8192 + n.val) % 32 = n.val % 32; omega
  · unfold rowCode
    refine congrArg (fun z => clip (nrm (XX x0) (GG x1) r z * _)) (Fin.ext ?_)
    show 32 * (n.val / 32) + n.val % 32 = n.val
    omega

theorem v49_at (n : Fin 8192) (q : Fin 288) (l : Fin 32) :
    val_main_v49 (F := Ideal) x0 x1 (ix3 n q l) = nrm (XX x0) (GG x1) (rk q l) n := by
  rw [val_main_v49_apply]
  refine (congrArg _ (show _ = ix2 n (rk q l) from ?_)).trans ((val_main_v48_apply x0 x1 _).trans
    ((congrArg _ (show _ = ix2 (rk q l) n from ?_)).trans (v15_at x0 x1 (rk q l) n)))
  · funext a; apply Fin.ext
    match a with
    | ⟨0, _⟩ => show ((n.val * 288 + q.val) * 32 + l.val) / 9216 = n.val; omega
    | ⟨1, _⟩ => show ((n.val * 288 + q.val) * 32 + l.val) % 9216 = 32 * q.val + l.val; omega
  · funext a; match a with | ⟨0, _⟩ => rfl | ⟨1, _⟩ => rfl

theorem v51_at (n : Fin 8192) (q : Fin 288) : val_main_v51 (F := Ideal) x0 x1 (ix2 n q) = cmx (XX x0) (GG x1) n q := by
  unfold val_main_v51
  refine (max_axis _ _ (by decide) _ n q).trans ?_
  unfold cmx
  refine congrArg gmax (funext fun l => ?_)
  rw [val_main_v50_apply, v49_at]; rfl

/-- The column's exponent, from the pieces of its computation. -/
theorem v69_at (n : Fin 8192) (q : Fin 288) :
    val_main_v69 (F := Ideal) x0 x1 (ix2 n q) = (((expo (cmx (XX x0) (GG x1) n q) : ℤ) : ℝ) : EReal) := by
  rw [← expo_ref (cmx_nonneg _ _ n q), val_main_v69_apply, val_main_v68_apply, select_lt, v51_at]
  unfold expoRef
  refine if_congr (Iff.of_eq (congrArg _ ?_)) ?_ ?_
  · rw [val_main_v67_apply, val_main_cst_19_apply]; rfl
  · rw [val_main_call4_v1_apply, val_main_call4_v0_apply, val_main_cst_20_apply]; exact ofBits_zero
  · unfold val_main_v66
    refine (min_axis _ _ (by decide) _ n q).trans ?_
    refine congrArg (Finset.fold min ⊤ · Finset.univ) (funext fun l => ?_)
    rw [val_main_v65_apply, val_main_v64_apply, select_lt, val_main_v62_apply, val_main_v56_apply, val_main_v63_apply, val_main_v61_apply,
      val_main_v60_apply, val_main_v59_apply, val_main_v58_apply, val_main_v57_apply, val_main_cst_16_apply, val_main_cst_15_apply,
      val_main_call3_v1_apply, val_main_call3_v2_apply, val_main_call3_v0_apply, val_main_cst_17_apply,
      val_main_v55_apply, val_main_v54_apply, val_main_v53_apply, val_main_v52_apply, val_main_c_14_apply]
    have e : idx_main_v56 (idx_main_v62 (ix3 n q l)) = ix2 n q := by
      funext a; match a with | ⟨0, _⟩ => rfl | ⟨1, _⟩ => rfl
    rw [e, v51_at]
    refine if_congr (Iff.of_eq (congrArg _ ?_)) ?_ ?_
    · exact thr_f l
    · exact exps_f l
    · exact ofBits_120

theorem v80_at (n : Fin 8192) (q : Fin 288) : val_main_v80 (F := Ideal) x0 x1 (ix2 n q) = Cert.Quant.colScale (XX x0) (GG x1) n q := by
  rw [val_main_v80_apply, v69_at, val_main_v79_apply, val_main_cst_24_apply, Ideal.hostPowf_def, Ideal.ofBits_def, pow_two]; rfl

theorem v76_at (n : Fin 8192) (q : Fin 288) (l : Fin 32) : val_main_v76 (F := Ideal) x0 x1 (ix3 n q l)
    = clip (nrm (XX x0) (GG x1) (rk q l) n * isc (cmx (XX x0) (GG x1) n q)) := by
  rw [val_main_v76_apply, val_main_call5_v4_apply, val_main_call5_v3_apply, val_main_call5_v2_apply, val_main_call5_v1_apply, val_main_call5_v0_apply,
    val_main_cst_22_apply, val_main_cst_23_apply, val_main_v75_apply, v49_at, val_main_v74_apply, val_main_v73_apply, val_main_v72_apply,
    val_main_cst_21_apply, val_main_v71_apply, val_main_v70_apply]
  have e : idx_main_v70 (idx_main_v74 (ix3 n q l)) = ix2 n q := by
    funext a; match a with | ⟨0, _⟩ => rfl | ⟨1, _⟩ => rfl
  rw [e, v69_at, Ideal.hostPowf_def, Ideal.ofBits_def, Ideal.hostNegf_def]
  have h := pow_two_neg (expo (cmx (XX x0) (GG x1) n q))
  unfold clip isc
  rw [← h]; rfl

theorem v78_at (n : Fin 8192) (r : Fin 9216) : val_main_v78 (F := Ideal) x0 x1 (ix2 n r) = colCode (XX x0) (GG x1) n r := by
  have hr := r.isLt
  rw [val_main_v78_apply, Ideal.hostConvertf_def, val_main_v77_apply]
  refine (congrArg _ (show _ = ix3 n (⟨r.val / 32, by omega⟩ : Fin 288) (⟨r.val % 32, by omega⟩ : Fin 32) from ?_)).trans ((v76_at x0 x1 _ _ _).trans ?_)
  · funext a; apply Fin.ext
    match a with
    | ⟨0, _⟩ => show (n.val * 9216 + r.val) / 9216 = n.val; omega
    | ⟨1, _⟩ => show (n.val * 9216 + r.val) / 32 % 288 = r.val / 32; omega
    | ⟨2, _⟩ => show (n.val * 9216 + r.val) % 32 = r.val % 32; omega
  · unfold colCode
    refine congrArg (fun z => clip (nrm (XX x0) (GG x1) z n * _)) (Fin.ext ?_)
    show 32 * (r.val / 32) + r.val % 32 = r.val
    omega
end
end
end Cert.RefValue
-- ==== Proof.Algebraic.lean ====
module
public import proofs.«01_k».proof.Defs
public import proofs.«01_k».proof.Proof.KernelRun
public import proofs.«01_k».proof.Proof.Ref
public section
/-!
# The value claim: from the same arguments the kernel and the reference leave the same five results
-/
namespace Cert.Proof
open Idealize.ShloMosaic Idealize.ShloMosaic.ValueIdx Idealize.SL.Sem Cert.RefValue Cert.KernelIdeal.Hand
noncomputable section
@[expose] public section

section
variable (a : Vec Ideal Cert.KernelIdeal.S9x1024x8192 .bf16) (b : Vec Ideal Cert.KernelIdeal.S8192 .bf16)

theorem ref45 : Cert.ReferenceIdeal.Read.val_main_v45 (F := Ideal) a b = fun i => Cert.Quant.rowCode (rowsOf a) (gainOf b) (i 0) (i 1) :=
  funext fun i => (congrArg _ (eq_ix2 i)).trans (v45_at a b (i 0) (i 1))
theorem ref47 : Cert.ReferenceIdeal.Read.val_main_v47 (F := Ideal) a b = fun i => Cert.Quant.rowScale (rowsOf a) (gainOf b) (i 0) (i 1) :=
  funext fun i => (congrArg _ (eq_ix2 i)).trans (v47_at a b (i 0) (i 1))
theorem ref78 : Cert.ReferenceIdeal.Read.val_main_v78 (F := Ideal) a b = fun i => Cert.Quant.colCode (rowsOf a) (gainOf b) (i 0) (i 1) :=
  funext fun i => (congrArg _ (eq_ix2 i)).trans (v78_at a b (i 0) (i 1))
theorem ref80 : Cert.ReferenceIdeal.Read.val_main_v80 (F := Ideal) a b = fun i => Cert.Quant.colScale (rowsOf a) (gainOf b) (i 0) (i 1) :=
  funext fun i => (congrArg _ (eq_ix2 i)).trans (v80_at a b (i 0) (i 1))
theorem ref8 : Cert.ReferenceIdeal.Read.val_main_v8 (F := Ideal) a = fun i => Cert.Quant.sig (rowsOf a) (i 0) :=
  funext fun i => (congrArg _ (show i = ix1 (i 0) from funext fun d => match d with | ⟨0, _⟩ => rfl)).trans (v8_at a (i 0))
end

theorem algebraic : Cert.algebraic_KernelIdeal_ReferenceIdeal := by
  intro m g m' g' _ hargs
  refine ⟨fun c => out2 m c, fun c => out3 m c, fun c => out4 m c, fun c => out5 m c, fun c => outR m c, run_values m g, ?_⟩
  refine (θ_run Cert.ReferenceIdeal.defs _ _).mono (fun r h c => ?_) (Cert.ReferenceIdeal.Value.run (F := Ideal) m' g')
  obtain ⟨h0, h1, h2, h3, h4, h5, h6⟩ := h c
  obtain ⟨e0, e1⟩ := hargs c
  refine ⟨?_, ?_, ?_, ?_, ?_, h5, h6⟩
  · refine (h0.trans (Cert.ReferenceIdeal.Read.val_main_v45_eq m' c)).trans ?_
    rw [e0, e1]; exact ref45 _ _
  · refine (h1.trans (Cert.ReferenceIdeal.Read.val_main_v47_eq _ _)).trans ?_
    rw [e0, e1]; exact ref47 _ _
  · refine (h2.trans (Cert.ReferenceIdeal.Read.val_main_v78_eq m' c)).trans ?_
    rw [e0, e1]; exact ref78 _ _
  · refine (h3.trans (Cert.ReferenceIdeal.Read.val_main_v80_eq _ _)).trans ?_
    rw [e0, e1]; exact ref80 _ _
  · refine (h4.trans (Cert.ReferenceIdeal.Read.val_main_v8_eq _)).trans ?_
    rw [e0]; exact ref8 _
end
end
end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
